-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S2x112x2x128 Cert.KernelIdeal.S2x112x1x128
  ∧ IdealRules.bf16_pair.Statement Cert.KernelIdeal.S256x112 Cert.KernelIdeal.S128x112
  ∧ IdealRules.bf16_pair.HalfStatement Cert.KernelIdeal.S128x112
  ∧ IdealRules.bf16_pair.HalfStatement Cert.KernelIdeal.S112x128
  ∧ IdealRules.bf16_pair.Statement Cert.KernelIdeal.S1x112x2x128 Cert.KernelIdeal.S1x112x1x128
  ∧ IdealRules.bf16_pair.Statement Cert.KernelIdeal.S1x1x2x128 Cert.KernelIdeal.S1x1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x3584 : Shape := ⟨3, ![192, 1, 3584]⟩
abbrev S64000x1792 : Shape := ⟨2, ![64000, 1792]⟩
abbrev S64000x112 : Shape := ⟨2, ![64000, 112]⟩
abbrev S192x7x2x128x2 : Shape := ⟨5, ![192, 7, 2, 128, 2]⟩
abbrev S192x7x128x2x2 : Shape := ⟨5, ![192, 7, 128, 2, 2]⟩
abbrev S192x3584 : Shape := ⟨2, ![192, 3584]⟩
abbrev S192x1 : Shape := ⟨2, ![192, 1]⟩
abbrev S512x1792 : Shape := ⟨2, ![512, 1792]⟩
abbrev S512x112 : Shape := ⟨2, ![512, 112]⟩
abbrev S3584x512 : Shape := ⟨2, ![3584, 512]⟩
abbrev S2x112x128 : Shape := ⟨3, ![2, 112, 128]⟩
abbrev S192x128 : Shape := ⟨2, ![192, 128]⟩
abbrev S256x112 : Shape := ⟨2, ![256, 112]⟩
abbrev S128x112 : Shape := ⟨2, ![128, 112]⟩
abbrev S112x128 : Shape := ⟨2, ![112, 128]⟩
abbrev S1x112x128 : Shape := ⟨3, ![1, 112, 128]⟩
abbrev S256x128 : Shape := ⟨2, ![256, 128]⟩
abbrev S64x128 : Shape := ⟨2, ![64, 128]⟩
abbrev S8x128 : Shape := ⟨2, ![8, 128]⟩
abbrev S128x128 : Shape := ⟨2, ![128, 128]⟩
abbrev S128x1x128 : Shape := ⟨3, ![128, 1, 128]⟩
abbrev S128x4x128 : Shape := ⟨3, ![128, 4, 128]⟩
abbrev S512x128 : Shape := ⟨2, ![512, 128]⟩
abbrev S1x1x128 : Shape := ⟨3, ![1, 1, 128]⟩
abbrev S1x128 : Shape := ⟨2, ![1, 128]⟩
abbrev S16x128 : Shape := ⟨2, ![16, 128]⟩
abbrev S192x512 : Shape := ⟨2, ![192, 512]⟩
abbrev S192 : Shape := ⟨1, ![192]⟩

abbrev nBuf : Space → Nat
  | .hbm => 9
  | .vmem => 13
  | .smem => 0
  | _ => 0

abbrev bufTy : (tb : Table) → Fin (tcTables nBuf tb) → BufTy
  | .hbm, ⟨0, _⟩ => ⟨S192x1x3584, .bf16⟩
  | .hbm, ⟨1, _⟩ => ⟨S64000x1792, .i8⟩
  | .hbm, ⟨2, _⟩ => ⟨S64000x112, .bf16⟩
  | .hbm, ⟨3, _⟩ => ⟨S192x7x2x128x2, .bf16⟩
  | .hbm, ⟨4, _⟩ => ⟨S192x7x128x2x2, .bf16⟩
  | .hbm, ⟨5, _⟩ => ⟨S192x3584, .bf16⟩
  | .hbm, ⟨6, _⟩ => ⟨S192x1, .i32⟩
  | .hbm, ⟨7, _⟩ => ⟨S192x1, .f32⟩
  | .hbm, ⟨8, _⟩ => ⟨S192x1, .f32⟩
  | .local _ .vmem, ⟨0, _⟩ => ⟨S192x3584, .bf16⟩
  | .local _ .vmem, ⟨1, _⟩ => ⟨S512x1792, .i8⟩
  | .local _ .vmem, ⟨2, _⟩ => ⟨S512x1792, .i8⟩
  | .local _ .vmem, ⟨3, _⟩ => ⟨S512x112, .bf16⟩
  | .local _ .vmem, ⟨4, _⟩ => ⟨S512x112, .bf16⟩
  | .local _ .vmem, ⟨5, _⟩ => ⟨S192x1, .i32⟩
  | .local _ .vmem, ⟨6, _⟩ => ⟨S192x1, .f32⟩
  | .local _ .vmem, ⟨7, _⟩ => ⟨S192x1, .f32⟩
  | .local _ .vmem, ⟨8, _⟩ => ⟨S3584x512, .bf16⟩
  | .local _ .vmem, ⟨9, _⟩ => ⟨S2x112x128, .i32⟩
  | .local _ .vmem, ⟨10, _⟩ => ⟨S192x128, .f32⟩
  | .local _ .vmem, ⟨11, _⟩ => ⟨S192x128, .f32⟩
  | .local _ .vmem, ⟨12, _⟩ => ⟨S192x128, .i32⟩
  | _, _ => ⟨S192x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [BitOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v4133 : BitVec 1 := Scalar.cmpi .eq arg0 c124_i32
  let v4134 : BitVec 32 := Scalar.extui v4133
  let c0_i32_1997 : BitVec 32 := 0#32
  let v4135 : BitVec 1 := Scalar.cmpi .ne v4134 c0_i32_1997
  v4135

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1792 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x112 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
abbrev S2x112x2x128 : Shape := ⟨4, ![2, 112, 2, 128]⟩
abbrev S2x112x1x128 : Shape := ⟨4, ![2, 112, 1, 128]⟩
abbrev S1x112x2x128 : Shape := ⟨4, ![1, 112, 2, 128]⟩
abbrev S1x112x1x128 : Shape := ⟨4, ![1, 112, 1, 128]⟩
abbrev S1x1x2x128 : Shape := ⟨4, ![1, 1, 2, 128]⟩
abbrev S1x1x1x128 : Shape := ⟨4, ![1, 1, 1, 128]⟩
  | .local _ .vmem, ⟨9, _⟩ => ⟨S2x112x2x128, .bf16⟩
variable {F : FTy → Type} [FloatOps F]
-- ==== ReferenceIdeal.lean ====
abbrev S192x1x3584 : Shape := ⟨3, ![192, 1, 3584]⟩
abbrev S64000x1792 : Shape := ⟨2, ![64000, 1792]⟩
abbrev S64000x112 : Shape := ⟨2, ![64000, 112]⟩
abbrev S64000x112x16 : Shape := ⟨3, ![64000, 112, 16]⟩
abbrev S_ : Shape := ⟨0, ![]⟩
abbrev S192x1x1792 : Shape := ⟨3, ![192, 1, 1792]⟩
abbrev S192x1x64000 : Shape := ⟨3, ![192, 1, 64000]⟩
abbrev S192x1 : Shape := ⟨2, ![192, 1]⟩
abbrev S192x1x1 : Shape := ⟨3, ![192, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S192x1x3584, .bf16⟩
  | .hbm, ⟨1, _⟩ => ⟨S64000x1792, .i8⟩
  | .hbm, ⟨2, _⟩ => ⟨S64000x112, .bf16⟩
  | .hbm, ⟨3, _⟩ => ⟨S64000x112x16, .bf16⟩
  | .hbm, ⟨4, _⟩ => ⟨S64000x1792, .bf16⟩
  | .hbm, ⟨5, _⟩ => ⟨S64000x1792, .i32⟩
  | .hbm, ⟨6, _⟩ => ⟨S_, .i32⟩
  | .hbm, ⟨7, _⟩ => ⟨S64000x1792, .i32⟩
  | .hbm, ⟨8, _⟩ => ⟨S64000x1792, .i32⟩
  | .hbm, ⟨9, _⟩ => ⟨S_, .i32⟩
  | .hbm, ⟨10, _⟩ => ⟨S64000x1792, .i32⟩
  | .hbm, ⟨11, _⟩ => ⟨S64000x1792, .i32⟩
  | .hbm, ⟨12, _⟩ => ⟨S64000x1792, .bf16⟩
  | .hbm, ⟨13, _⟩ => ⟨S_, .bf16⟩
  | .hbm, ⟨14, _⟩ => ⟨S64000x1792, .bf16⟩
  | .hbm, ⟨15, _⟩ => ⟨S64000x1792, .bf16⟩
  | .hbm, ⟨16, _⟩ => ⟨S64000x1792, .bf16⟩
  | .hbm, ⟨17, _⟩ => ⟨S64000x1792, .bf16⟩
  | .hbm, ⟨18, _⟩ => ⟨S_, .bf16⟩
  | .hbm, ⟨19, _⟩ => ⟨S64000x1792, .bf16⟩
  | .hbm, ⟨20, _⟩ => ⟨S64000x1792, .bf16⟩
  | .hbm, ⟨21, _⟩ => ⟨S64000x1792, .bf16⟩
  | .hbm, ⟨22, _⟩ => ⟨S192x1x1792, .bf16⟩
  | .hbm, ⟨23, _⟩ => ⟨S192x1x1792, .bf16⟩
  | .hbm, ⟨24, _⟩ => ⟨S192x1x64000, .f32⟩
  | .hbm, ⟨25, _⟩ => ⟨S192x1x64000, .f32⟩
  | .hbm, ⟨26, _⟩ => ⟨S192x1x64000, .f32⟩
  | .hbm, ⟨27, _⟩ => ⟨S_, .f32⟩
  | .hbm, ⟨28, _⟩ => ⟨S192x1, .f32⟩
  | .hbm, ⟨29, _⟩ => ⟨S192x1x64000, .i32⟩
  | .hbm, ⟨30, _⟩ => ⟨S_, .f32⟩
  | .hbm, ⟨31, _⟩ => ⟨S_, .i32⟩
  | .hbm, ⟨32, _⟩ => ⟨S192x1, .f32⟩
  | .hbm, ⟨33, _⟩ => ⟨S192x1, .i32⟩
  | .hbm, ⟨34, _⟩ => ⟨S192x1x64000, .i32⟩
  | .hbm, ⟨35, _⟩ => ⟨S192x1x1, .i32⟩
  | .hbm, ⟨36, _⟩ => ⟨S192x1x64000, .i32⟩
  | .hbm, ⟨37, _⟩ => ⟨S192x1x64000, .i1⟩
  | .hbm, ⟨38, _⟩ => ⟨S_, .f32⟩
  | .hbm, ⟨39, _⟩ => ⟨S_, .f32⟩
  | .hbm, ⟨40, _⟩ => ⟨S192x1x64000, .f32⟩
  | .hbm, ⟨41, _⟩ => ⟨S192x1x64000, .f32⟩
  | .hbm, ⟨42, _⟩ => ⟨S_, .f32⟩
  | .hbm, ⟨43, _⟩ => ⟨S192x1, .f32⟩
  | .hbm, ⟨44, _⟩ => ⟨S192x1, .f32⟩
  | _, _ => ⟨S192x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.ReferenceRun.lean ====
/-
  The reference's run: its `@main` is one straight line of host operations (`ops`), the two helper functions' bodies
  unfolded where they are called, and every buffer ends at the operations' fold over the launch contents (`run_main`).
  The arrays of interest are named: `logits` (both halves of the contraction added), `topOf` (the largest logit),
  `tokenOf` (where it stands), `secondOf` (the largest logit elsewhere).
-/
module

public import proofs.«01_k».proof.Defs
public import Idealize.ShloMosaic.Lib.StableHlo.Run
public import Idealize.ShloMosaic.Lib.StableHlo.RunRead
public import Idealize.ShloMosaic.Lib.Quiescent
public import proofs.«01_k».proof.Proof.Gen.ReferenceIdeal

@[expose] public section

noncomputable section

namespace Cert.RefRun

open Idealize.ShloMosaic Idealize.ShloMosaic.StableHlo Idealize.SL.Sem Cert.ReferenceIdeal Cert.ReferenceIdeal.Gen

variable {F : FTy → Type} [FloatOps F]

/-! ## The arrays -/

/-- The scales, each repeated for the sixteen bytes of its group. -/
def scales (s : (⟨S64000x112, .bf16⟩ : BufTy).Contents (Elt F)) : (⟨S64000x1792, .bf16⟩ : BufTy).Contents (Elt F) :=
  shapeCast S64000x1792 (broadcastInDim S64000x112x16 ![0, 1] bcast_S64000x112_S64000x112x16_0_1 s)
    shapeCasts_S64000x112x16_S64000x1792

/-- A field of the packed bytes, less eight, times its scale. -/
def weights (codes : (⟨S64000x1792, .i32⟩ : BufTy).Contents (Elt F)) (s : (⟨S64000x112, .bf16⟩ : BufTy).Contents (Elt F)) :
    (⟨S64000x1792, .bf16⟩ : BufTy).Contents (Elt F) :=
  mulf (subf (sitofp .bf16 codes)
    (broadcastInDim S64000x1792 ![] bcast_S_S64000x1792 (constant S_ .bf16 0x4100#16))) (scales s)

/-- The low fields. -/
def lows (w : (⟨S64000x1792, .i8⟩ : BufTy).Contents (Elt F)) : (⟨S64000x1792, .i32⟩ : BufTy).Contents (Elt F) :=
  andi (extui 32 w natLt_8_32) (broadcastInDim S64000x1792 ![] bcast_S_S64000x1792 (constantI S_ 32 15#32))

/-- The high fields. -/
def highs (w : (⟨S64000x1792, .i8⟩ : BufTy).Contents (Elt F)) : (⟨S64000x1792, .i32⟩ : BufTy).Contents (Elt F) :=
  Host.shrsi (extui 32 w natLt_8_32) (broadcastInDim S64000x1792 ![] bcast_S_S64000x1792 (constantI S_ 32 4#32))

/-- The logits: the even features against the low fields, plus the odd ones against the high fields. -/
def logits (x : (⟨S192x1x3584, .bf16⟩ : BufTy).Contents (Elt F)) (w : (⟨S64000x1792, .i8⟩ : BufTy).Contents (Elt F))
    (s : (⟨S64000x112, .bf16⟩ : BufTy).Contents (Elt F)) : (⟨S192x1x64000, .f32⟩ : BufTy).Contents (Elt F) :=
  addf
    (Host.dotGeneral dot_S192x1x1792_S64000x1792_S192x1x64000_2_1_01_0_n_n none
      (Host.slice S192x1x1792 ![0, 0, 0] ![1, 1, 2] x slicesBy_S192x1x3584_S192x1x1792_0s1_0s1_0s2)
      (weights (lows w) s))
    (Host.dotGeneral dot_S192x1x1792_S64000x1792_S192x1x64000_2_1_01_0_n_n none
      (Host.slice S192x1x1792 ![0, 0, 1] ![1, 1, 2] x slicesBy_S192x1x3584_S192x1x1792_0s1_0s1_1s2)
      (weights (highs w) s))

/-- The largest entry along the vocabulary. -/
def topOf (L : (⟨S192x1x64000, .f32⟩ : BufTy).Contents (Elt F)) : (⟨S192x1, .f32⟩ : BufTy).Contents (Elt F) :=
  Host.reduce FloatOps.maximumf L (constant S_ .f32 0xFF800000#32) reducesTo_S192x1x64000_S192x1_d2 h_S_

/-- Where the largest entry stands. -/
def tokenOf (L : (⟨S192x1x64000, .f32⟩ : BufTy).Contents (Elt F)) : (⟨S192x1, .i32⟩ : BufTy).Contents (Elt F) :=
  fun j => (Host.argReduce reducer_argmax_f32_i32 L (iotaInDim S192x1x64000 32 2) (constant S_ .f32 0xFF800000#32)
    (constantI S_ 32 0#32) reducesTo_S192x1x64000_S192x1_d2 h_S_ j).2

/-- The column of each row's token. -/
def ownColumn (t : (⟨S192x1, .i32⟩ : BufTy).Contents (Elt F)) : (⟨S192x1x64000, .i1⟩ : BufTy).Contents (Elt F) :=
  cmpi .eq (iotaInDim S192x1x64000 32 2)
    (broadcastInDim S192x1x64000 ![0, 1, 2] bcast_S192x1x1_S192x1x64000_0_1_2
      (broadcastInDim S192x1x1 ![0, 1] bcast_S192x1_S192x1x1_0_1 t))

/-- The largest entry with the token's own column set to negative infinity. -/
def secondOf (L : (⟨S192x1x64000, .f32⟩ : BufTy).Contents (Elt F)) : (⟨S192x1, .f32⟩ : BufTy).Contents (Elt F) :=
  topOf (select
    (ownColumn (tokenOf L))
    (broadcastInDim S192x1x64000 ![] bcast_S_S192x1x64000 (constant S_ .f32 0xFF800000#32)) L)

/-! ## The run -/

/-- The operations up to the logits. -/
abbrev opsA : List (HloOp τ sig (Elt F)) :=
  [ unary main_arg2 main_v0 (broadcastInDim S64000x112x16 ![0, 1] bcast_S64000x112_S64000x112x16_0_1),
    reshape main_v0 main_v1 (rfl : (.bf16 : EltTy) = .bf16) shapeCasts_S64000x112x16_S64000x1792,
    unary main_arg1 main_v2 ((extui 32 · natLt_8_32)),
    nullary main_c (constantI S_ 32 15#32),
    unary main_c main_v3 (broadcastInDim S64000x1792 ![] bcast_S_S64000x1792),
    binary main_v2 main_v3 main_v4 (andi),
    nullary main_c_0 (constantI S_ 32 4#32),
    unary main_c_0 main_v5 (broadcastInDim S64000x1792 ![] bcast_S_S64000x1792),
    binary main_v2 main_v5 main_v6 (Host.shrsi),
    unary main_v4 main_v7 (sitofp .bf16),
    nullary main_cst (constant S_ .bf16 0x4100#16),
    unary main_cst main_v8 (broadcastInDim S64000x1792 ![] bcast_S_S64000x1792),
    binary main_v7 main_v8 main_v9 (subf),
    binary main_v9 main_v1 main_v10 (mulf),
    unary main_v6 main_v11 (sitofp .bf16),
    nullary main_cst_1 (constant S_ .bf16 0x4100#16),
    unary main_cst_1 main_v12 (broadcastInDim S64000x1792 ![] bcast_S_S64000x1792),
    binary main_v11 main_v12 main_v13 (subf),
    binary main_v13 main_v1 main_v14 (mulf),
    unary main_arg0 main_v15 ((Host.slice S192x1x1792 ![0, 0, 0] ![1, 1, 2] · slicesBy_S192x1x3584_S192x1x1792_0s1_0s1_0s2)),
    unary main_arg0 main_v16 ((Host.slice S192x1x1792 ![0, 0, 1] ![1, 1, 2] · slicesBy_S192x1x3584_S192x1x1792_0s1_0s1_1s2)),
    binary main_v15 main_v10 main_v17 ((fun l r => Host.dotGeneral dot_S192x1x1792_S64000x1792_S192x1x64000_2_1_01_0_n_n none l r)),
    binary main_v16 main_v14 main_v18 ((fun l r => Host.dotGeneral dot_S192x1x1792_S64000x1792_S192x1x64000_2_1_01_0_n_n none l r)),
    binary main_v17 main_v18 main_v19 (addf) ]

/-- The largest logit, and where it stands. -/
abbrev opsB : List (HloOp τ sig (Elt F)) :=
  [ nullary main_cst_2 (constant S_ .f32 0xFF800000#32),
    binary main_v19 main_cst_2 main_v20 ((fun x v => Host.reduce FloatOps.maximumf x v reducesTo_S192x1x64000_S192x1_d2 h_S_)),
    TRef.nullary main_call0.v0 (iotaInDim S192x1x64000 32 2),
    TRef.nullary main_call0.cst (constant S_ .f32 0xFF800000#32),
    TRef.nullary main_call0.c (constantI S_ 32 0#32),
    TRef.quaternary (.of main_v19) main_call0.v0 main_call0.cst main_call0.c main_call0.v1_0 (fun x y u v j => (Host.argReduce reducer_argmax_f32_i32 x y u v reducesTo_S192x1x64000_S192x1_d2 h_S_ j).1),
    TRef.quaternary (.of main_v19) main_call0.v0 main_call0.cst main_call0.c main_call0.v1_1 (fun x y u v j => (Host.argReduce reducer_argmax_f32_i32 x y u v reducesTo_S192x1x64000_S192x1_d2 h_S_ j).2) ]

/-- The mask of the token's own column. -/
abbrev opsC : List (HloOp τ sig (Elt F)) :=
  [ nullary main_v22 (iotaInDim S192x1x64000 32 2),
    unary main_v21 main_v23 (broadcastInDim S192x1x1 ![0, 1] bcast_S192x1_S192x1x1_0_1),
    unary main_v23 main_v24 (broadcastInDim S192x1x64000 ![0, 1, 2] bcast_S192x1x1_S192x1x64000_0_1_2),
    binary main_v22 main_v24 main_v25 (cmpi .eq),
    nullary main_cst_3 (constant S_ .f32 0xFF800000#32) ]

/-- The masked copy of the logits. -/
abbrev opsD : List (HloOp τ sig (Elt F)) :=
  [ TRef.unary (.of main_cst_3) main_call1.v0 id,
    TRef.unary main_call1.v0 main_call1.v1 (broadcastInDim S192x1x64000 ![] bcast_S_S192x1x64000),
    TRef.ternary (.of main_v25) main_call1.v1 (.of main_v19) main_call1.v2 select ]

/-- The largest entry of the masked copy, and the margin. -/
abbrev opsE : List (HloOp τ sig (Elt F)) :=
  [ nullary main_cst_4 (constant S_ .f32 0xFF800000#32),
    binary main_v26 main_cst_4 main_v27 ((fun x v => Host.reduce FloatOps.maximumf x v reducesTo_S192x1x64000_S192x1_d2 h_S_)),
    binary main_v20 main_v27 main_v28 (subf) ]

/-- @main's operations in order, the two calls unfolded. -/
abbrev ops : List (HloOp τ sig (Elt F)) := opsA ++ (opsB ++ (opsC ++ (opsD ++ opsE)))

set_option maxRecDepth 2048 in
/-- @main is that straight line. -/
theorem main_eq (c : Dev nD) : main (F := F) c = seq ops := by
  simp only [main, fn_argmax.body, fn_where.body, seq, List.cons_append, List.nil_append, bind_assoc, pure_bind]
  rfl

theorem arg0_eq (V : Valuation τ sig (Elt F)) : after ops V (Proc.devRef .tc main_arg0) = V (Proc.devRef .tc main_arg0) := by
  after_reads_simp

theorem arg1_eq (V : Valuation τ sig (Elt F)) : after ops V (Proc.devRef .tc main_arg1) = V (Proc.devRef .tc main_arg1) := by
  after_reads_simp

theorem arg2_eq (V : Valuation τ sig (Elt F)) : after ops V (Proc.devRef .tc main_arg2) = V (Proc.devRef .tc main_arg2) := by
  after_reads_simp

theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem logits_eq (V : Valuation τ sig (Elt F)) : after opsA V (Proc.devRef .tc main_v19)
    = logits (V (Proc.devRef .tc main_arg0)) (V (Proc.devRef .tc main_arg1)) (V (Proc.devRef .tc main_arg2)) := by
  after_reads_simp
  rfl

theorem tokenB (W : Valuation τ sig (Elt F)) :
    after opsB W (Proc.devRef .tc main_v21) = tokenOf (W (Proc.devRef .tc main_v19)) := by
  after_reads_simp
  rfl

theorem topB (W : Valuation τ sig (Elt F)) :
    after opsB W (Proc.devRef .tc main_v20) = topOf (W (Proc.devRef .tc main_v19)) := by
  after_reads_simp
  rfl

theorem logitsB (W : Valuation τ sig (Elt F)) : after opsB W (Proc.devRef .tc main_v19) = W (Proc.devRef .tc main_v19) := by
  after_reads_simp

theorem maskC (W : Valuation τ sig (Elt F)) : after opsC W (Proc.devRef .tc main_v25) = ownColumn (W (Proc.devRef .tc main_v21)) := by
  after_reads_simp
  rfl

theorem cstC (W : Valuation τ sig (Elt F)) : after opsC W (Proc.devRef .tc main_cst_3) = constant S_ .f32 0xFF800000#32 := by
  after_reads_simp

theorem logitsC (W : Valuation τ sig (Elt F)) : after opsC W (Proc.devRef .tc main_v19) = W (Proc.devRef .tc main_v19) := by
  after_reads_simp

theorem topC (W : Valuation τ sig (Elt F)) : after opsC W (Proc.devRef .tc main_v20) = W (Proc.devRef .tc main_v20) := by
  after_reads_simp

theorem tokenC (W : Valuation τ sig (Elt F)) : after opsC W (Proc.devRef .tc main_v21) = W (Proc.devRef .tc main_v21) := by
  after_reads_simp

theorem maskedD (W : Valuation τ sig (Elt F)) : after opsD W (Proc.devRef .tc main_v26)
    = select (W (Proc.devRef .tc main_v25)) (broadcastInDim S192x1x64000 ![] bcast_S_S192x1x64000 (W (Proc.devRef .tc main_cst_3))) (W (Proc.devRef .tc main_v19)) := by
  after_reads_simp
  rfl

theorem topD (W : Valuation τ sig (Elt F)) : after opsD W (Proc.devRef .tc main_v20) = W (Proc.devRef .tc main_v20) := by
  after_reads_simp

theorem tokenD (W : Valuation τ sig (Elt F)) : after opsD W (Proc.devRef .tc main_v21) = W (Proc.devRef .tc main_v21) := by
  after_reads_simp

theorem marginE (W : Valuation τ sig (Elt F)) :
    after opsE W (Proc.devRef .tc main_v28) = subf (W (Proc.devRef .tc main_v20)) (topOf (W (Proc.devRef .tc main_v26))) := by
  after_reads_simp
  rfl

theorem topE (W : Valuation τ sig (Elt F)) : after opsE W (Proc.devRef .tc main_v20) = W (Proc.devRef .tc main_v20) := by
  after_reads_simp

theorem tokenE (W : Valuation τ sig (Elt F)) : after opsE W (Proc.devRef .tc main_v21) = W (Proc.devRef .tc main_v21) := by
  after_reads_simp

theorem token_eq (V : Valuation τ sig (Elt F)) : after ops V (Proc.devRef .tc main_v21)
    = tokenOf (logits (V (Proc.devRef .tc main_arg0)) (V (Proc.devRef .tc main_arg1)) (V (Proc.devRef .tc main_arg2))) := by
  rw [ops, after_append, after_append, after_append, after_append, tokenE, tokenD, tokenC, tokenB, logits_eq]

theorem top_eq (V : Valuation τ sig (Elt F)) : after ops V (Proc.devRef .tc main_v20)
    = topOf (logits (V (Proc.devRef .tc main_arg0)) (V (Proc.devRef .tc main_arg1)) (V (Proc.devRef .tc main_arg2))) := by
  rw [ops, after_append, after_append, after_append, after_append, topE, topD, topC, topB, logits_eq]

theorem margin_eq (V : Valuation τ sig (Elt F)) : after ops V (Proc.devRef .tc main_v28)
    = subf (topOf (logits (V (Proc.devRef .tc main_arg0)) (V (Proc.devRef .tc main_arg1)) (V (Proc.devRef .tc main_arg2))))
        (secondOf (logits (V (Proc.devRef .tc main_arg0)) (V (Proc.devRef .tc main_arg1)) (V (Proc.devRef .tc main_arg2)))) := by
  rw [ops, after_append, after_append, after_append, after_append, marginE, topD, topC, topB, maskedD, maskC, cstC,
    logitsC, tokenB, logitsB, logits_eq]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., nullary_bufs_sub .., unary_bufs_sub ..,
    binary_bufs_sub .., nullary_bufs_sub .., unary_bufs_sub .., binary_bufs_sub .., unary_bufs_sub ..,
    nullary_bufs_sub .., unary_bufs_sub .., binary_bufs_sub .., binary_bufs_sub .., unary_bufs_sub ..,
    nullary_bufs_sub .., unary_bufs_sub .., binary_bufs_sub .., binary_bufs_sub .., unary_bufs_sub ..,
    unary_bufs_sub .., binary_bufs_sub .., binary_bufs_sub .., binary_bufs_sub .., nullary_bufs_sub ..,
    binary_bufs_sub .., nullary_bufs_sub .., nullary_bufs_sub .., nullary_bufs_sub .., quaternary_bufs_sub ..,
    quaternary_bufs_sub .., nullary_bufs_sub .., unary_bufs_sub .., unary_bufs_sub .., binary_bufs_sub ..,
    nullary_bufs_sub .., unary_bufs_sub .., unary_bufs_sub .., ternary_bufs_sub .., nullary_bufs_sub ..,
    binary_bufs_sub .., binary_bufs_sub ..⟩

/-- Every execution of @main terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The reference runs, its arguments end unchanged, and it declares no semaphore. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun r h => ⟨fun c => ⟨(h c main_arg0).trans (arg0_eq _), (h c main_arg1).trans (arg1_eq _),
      (h c main_arg2).trans (arg2_eq _)⟩, Idealize.ShloMosaic.sem_eq_zero_of_no_sems (by decide) r.2⟩)
    (run_main m ρ)

end Cert.RefRun

end
-- ==== Proof.Folds.lean ====
/-
  Folds of maxima and minima, as suprema and least elements.
-/
module

public import Idealize.ShloMosaic.Lib.WordCmp
public import Idealize.ShloMosaic.Lib.Pointwise
public import Mathlib.Data.EReal.Basic
public import Mathlib.Data.Finset.Fold
public import Mathlib.Data.Finset.Lattice.Fold

@[expose] public section

noncomputable section

namespace Cert.Folds

open Idealize.ShloMosaic

/-- The word the programs start a maximum from is negative infinity. -/
theorem start_eq_bot : Ideal.ofBits .f32 4286578688#32 = (⊥ : EReal) := by
  simp [Ideal.ofBits, Ideal.ieee]

/-- A fold of maxima from negative infinity is the largest value. -/
theorem fold_max_eq_sup {n : ℕ} (f : Fin n → EReal) (g : ℕ → EReal) (h : ∀ i, f i = g i.val) :
    (Finset.univ : Finset (Fin n)).fold max ⊥ f = (Finset.range n).sup g := by
  show (Finset.univ : Finset (Fin n)).sup f = _
  refine le_antisymm (Finset.sup_le fun i _ => ?_) (Finset.sup_le fun v hv => ?_)
  · rw [h]
    exact Finset.le_sup (f := g) (Finset.mem_range.2 i.isLt)
  · have := Finset.le_sup (f := f) (Finset.mem_univ (⟨v, Finset.mem_range.1 hv⟩ : Fin n))
    rwa [h] at this

theorem toInt_ofNat {a : ℕ} (ha : a < 2147483648) : (BitVec.ofNat 32 a).toInt = (a : ℤ) := by
  have e : (BitVec.ofNat 32 a).toNat = a := by rw [BitVec.toNat_ofNat]; omega
  rw [BitVec.toInt_eq_toNat_of_lt (by rw [e]; omega), e]

theorem minsi_ofNat (a b : ℕ) (ha : a < 2147483648) (hb : b < 2147483648) :
    IntOp.minsi (BitVec.ofNat 32 a) (BitVec.ofNat 32 b) = BitVec.ofNat 32 (min a b) := by
  have ta := toInt_ofNat ha
  have tb := toInt_ofNat hb
  unfold IntOp.minsi
  rw [BitVec.slt_eq_decide, ta, tb]
  by_cases h : a < b
  · rw [min_eq_left h.le, if_pos (by simpa using h)]
  · rw [min_eq_right (by omega), if_neg (by simpa using h)]

/-- A fold of signed minima of small words is the least of them. -/
theorem fold_minsi {n : ℕ} (f : Fin n → BitVec 32) (g : Fin n → ℕ) (hf : ∀ i, f i = BitVec.ofNat 32 (g i)) (hg : ∀ i, g i < 2147483648)
    (tok : ℕ) (hle : ∀ i, tok ≤ g i) (hmem : ∃ i, g i = tok) :
    (Finset.univ : Finset (Fin n)).fold IntOp.minsi 2147483647#32 f = BitVec.ofNat 32 tok := by
  have key : ∀ s : Finset (Fin n), s.fold min 2147483647 g < 2147483648 ∧
      s.fold IntOp.minsi 2147483647#32 f = BitVec.ofNat 32 (s.fold min 2147483647 g) := by
    intro s
    induction s using Finset.induction_on with
    | empty => exact ⟨by simp, rfl⟩
    | insert a s ha ih =>
      rw [Finset.fold_insert ha, Finset.fold_insert ha, ih.2, hf]
      exact ⟨lt_of_le_of_lt (min_le_left _ _) (hg a), minsi_ofNat _ _ (hg a) ih.1⟩
  rw [(key _).2]
  congr 1
  obtain ⟨i, hi⟩ := hmem
  refine le_antisymm ?_ ?_
  · exact Finset.fold_min_le _ |>.2 (Or.inr ⟨i, Finset.mem_univ i, hi.le⟩)
  · exact Finset.le_fold_min _ |>.2 ⟨by have := hle i; have := hg i; omega, fun j _ => hle j⟩

/-- A select on two words being equal, of words that are numbers, is one on the numbers. -/
theorem select_ofNat {α : Type} (a b : ℕ) (ha : a < 2147483648) (hb : b < 2147483648) (x y : α) :
    Scalar.select (IntOp.cmpi .eq (BitVec.ofNat 32 a) (BitVec.ofNat 32 b)) x y = if a = b then x else y := by
  have e := WordCmp.cmpi_eq_ofNat_eq_one_iff (w := 32) (a := a) (b := b) (by omega) (by omega)
  by_cases h : a = b
  · rw [if_pos h]
    exact if_pos (e.mpr h)
  · rw [if_neg h]
    exact if_neg fun hc => h (e.mp hc)

end Cert.Folds
-- ==== Proof.Top2.lean ====
/-
  The two largest of a list, kept lane by lane and joined at the end. Pure mathematics: nothing here names a program.

  A vocabulary of 64000 entries is cut into 500 chunks of 128 lanes; entry `vocab j l` is chunk `j`'s lane `l`. Each lane
  keeps, over the chunks in order, its largest value, the chunk where that value first stood, and the largest of its other
  values (`Lane`). Joined over the lanes these give the largest entry, the first place it stands, and the largest of the
  other entries (`top_of_lanes`, `first_of_lanes`, `second_of_lanes`).
-/
module

public import Mathlib.Data.EReal.Basic
public import Mathlib.Data.Finset.Lattice.Fold
public import Mathlib.Data.Finset.Max

@[expose] public section

noncomputable section

namespace Cert.Top2

/-! ## A single list -/

/-- `w` is the first place where `f` takes the value `b`, its largest among the first `n`. -/
def First (f : ℕ → EReal) (n : ℕ) (b : EReal) (w : ℕ) : Prop :=
  w < n ∧ f w = b ∧ ∀ j < w, f j < b

/-- A first place is one place. -/
theorem First.unique {f : ℕ → EReal} {n : ℕ} {b : EReal} {v w : ℕ} (hv : First f n b v) (hw : First f n b w) : v = w := by
  rcases lt_trichotomy v w with h | h | h
  · exact absurd hv.2.1 (hw.2.2 v h).ne
  · exact h
  · exact absurd hw.2.1 (hv.2.2 w h).ne

/-- What a lane holds after `n` values of `f`: the largest, where it first stood, and the largest of the others. -/
structure Lane (f : ℕ → EReal) (n : ℕ) (b s : EReal) (w : ℕ) : Prop where
  best : b = (Finset.range n).sup f
  second : s = ((Finset.range n).erase w).sup f
  start : n = 0 → w = 0
  first : 0 < n → First f n b w

/-- Before any value. -/
theorem Lane.zero (f : ℕ → EReal) : Lane f 0 ⊥ ⊥ 0 :=
  ⟨by simp, by simp, fun _ => rfl, fun h => absurd h (lt_irrefl 0)⟩

/-- One value more. -/
theorem Lane.succ {f : ℕ → EReal} {n : ℕ} {b s : EReal} {w : ℕ} (h : Lane f n b s w) :
    Lane f (n + 1) (max b (f n)) (max s (min b (f n))) (if b < f n then n else w) := by
  have hle : ∀ j < n, f j ≤ b := fun j hj => h.best ▸ Finset.le_sup (f := f) (Finset.mem_range.2 hj)
  have hbest : max b (f n) = (Finset.range (n + 1)).sup f := by
    rw [Finset.range_add_one, Finset.sup_insert, ← h.best, max_comm]
  by_cases hlt : b < f n
  · have hb : max s b = b := by
      refine max_eq_right ?_
      rw [h.second, h.best]
      exact Finset.sup_mono (Finset.erase_subset _ _)
    rw [if_pos hlt]
    refine ⟨hbest, ?_, fun h0 => absurd h0 (Nat.succ_ne_zero n), fun _ => ⟨Nat.lt_succ_self n, ?_, fun j hj => ?_⟩⟩
    · rw [min_eq_left hlt.le, hb, Finset.range_add_one, Finset.erase_insert Finset.notMem_range_self, h.best]
    · exact (max_eq_right hlt.le).symm
    · exact lt_of_le_of_lt (hle j hj) (lt_of_lt_of_le hlt (le_max_right _ _))
  · have hge : f n ≤ b := not_lt.1 hlt
    rw [if_neg hlt, min_eq_right hge, max_eq_left hge]
    rcases Nat.eq_zero_or_pos n with h0 | hpos
    · have hw := h.start h0
      subst h0; subst hw
      have hb : b = ⊥ := by rw [h.best]; simp
      have hf : f 0 = ⊥ := le_bot_iff.1 (hb ▸ hge)
      have hs : s = ⊥ := by rw [h.second]; simp
      refine ⟨by rw [← hbest, max_eq_left hge], ?_, fun h0 => absurd h0 (Nat.succ_ne_zero 0),
        fun _ => ⟨Nat.zero_lt_one, by rw [hf, hb], fun j hj => absurd hj (Nat.not_lt_zero j)⟩⟩
      rw [hs, hf]; simp
    · obtain ⟨hw, hfw, hlt'⟩ := h.first hpos
      refine ⟨by rw [← hbest, max_eq_left hge], ?_, fun h0 => absurd h0 (Nat.succ_ne_zero n),
        fun _ => ⟨Nat.lt_succ_of_lt hw, hfw, hlt'⟩⟩
      rw [Finset.range_add_one, Finset.erase_insert_of_ne hw.ne', Finset.sup_insert, ← h.second, max_comm]

/-! ## The vocabulary as chunks of lanes -/

/-- The vocabulary entry of chunk `j`'s lane `l`: a pair of chunks holds 256 adjacent entries, the even ones in the first. -/
def vocab (j l : ℕ) : ℕ := j / 2 * 256 + 2 * l + j % 2

theorem vocab_lt {j l : ℕ} (hj : j < 500) (hl : l < 128) : vocab j l < 64000 := by unfold vocab; omega

theorem vocab_lt_vocab {i j l : ℕ} (h : i < j) (hl : l < 128) : vocab i l < vocab j l := by unfold vocab; omega

/-- Every entry stands in one chunk's lane. -/
theorem exists_vocab {v : ℕ} (h : v < 64000) : ∃ j < 500, ∃ l < 128, vocab j l = v :=
  ⟨2 * (v / 256) + v % 2, by omega, v % 256 / 2, by omega, by unfold vocab; omega⟩

theorem vocab_inj {j l j' l' : ℕ} (hl : l < 128) (hl' : l' < 128) (h : vocab j l = vocab j' l') : j = j' ∧ l = l' := by
  unfold vocab at h; omega

section Lanes

variable {L : ℕ → EReal} {b s : ℕ → EReal} {w : ℕ → ℕ}
  (H : ∀ l < 128, Lane (fun j => L (vocab j l)) 500 (b l) (s l) (w l))
include H

/-- The largest of the lanes' largest is the largest entry. -/
theorem top_of_lanes : (Finset.range 128).sup b = (Finset.range 64000).sup L := by
  apply le_antisymm
  · refine Finset.sup_le fun l hl => ?_
    have hl := Finset.mem_range.1 hl
    rw [(H l hl).best]
    exact Finset.sup_le fun j hj => Finset.le_sup (f := L) (Finset.mem_range.2 (vocab_lt (Finset.mem_range.1 hj) hl))
  · refine Finset.sup_le fun v hv => ?_
    obtain ⟨j, hj, l, hl, rfl⟩ := exists_vocab (Finset.mem_range.1 hv)
    refine le_trans ?_ (Finset.le_sup (f := b) (Finset.mem_range.2 hl))
    rw [(H l hl).best]
    exact Finset.le_sup (f := fun j => L (vocab j l)) (Finset.mem_range.2 hj)

/-- The least of the entries named by the lanes whose largest is the largest of all is the first place it stands. -/
theorem first_of_lanes {top : EReal} (htop : top = (Finset.range 64000).sup L) {tok : ℕ}
    (hle : ∀ l < 128, b l = top → tok ≤ vocab (w l) l) (hmem : ∃ l < 128, b l = top ∧ tok = vocab (w l) l) :
    First L 64000 top tok := by
  obtain ⟨l, hl, hb, rfl⟩ := hmem
  obtain ⟨hw, hLw, -⟩ := (H l hl).first (by norm_num)
  refine ⟨vocab_lt hw hl, hLw.trans hb, fun v hv => ?_⟩
  have hv' : v < 64000 := lt_trans hv (vocab_lt hw hl)
  have hvle : L v ≤ top := htop ▸ Finset.le_sup (f := L) (Finset.mem_range.2 hv')
  refine lt_of_le_of_ne hvle fun hveq => ?_
  obtain ⟨j', hj', l', hl', rfl⟩ := exists_vocab hv'
  have h1 : L (vocab j' l') ≤ b l' := by
    rw [(H l' hl').best]
    exact Finset.le_sup (f := fun j => L (vocab j l')) (Finset.mem_range.2 hj')
  have h2 : b l' ≤ top := by
    rw [htop, ← top_of_lanes H]; exact Finset.le_sup (f := b) (Finset.mem_range.2 hl')
  have hb' : b l' = top := le_antisymm h2 (hveq ▸ h1)
  have hfirst := (H l' hl').first (by norm_num)
  have hwle : w l' ≤ j' := by
    by_contra hlt
    have := hfirst.2.2 j' (not_le.1 hlt)
    rw [hb'] at this
    exact absurd hveq this.ne
  have : vocab (w l') l' ≤ vocab j' l' := by
    rcases Nat.eq_or_lt_of_le hwle with h | h
    · rw [h]
    · exact (vocab_lt_vocab h hl').le
  exact absurd (lt_of_le_of_lt this hv) (not_lt.2 (hle l' hl' hb'))

/-- The token's own lane giving its second largest and every other its largest, the largest of these is the largest of the
    entries other than the token. -/
theorem second_of_lanes {tok : ℕ} (hmem : ∃ l < 128, tok = vocab (w l) l) :
    (Finset.range 128).sup (fun l => if vocab (w l) l = tok then s l else b l) = ((Finset.range 64000).erase tok).sup L := by
  obtain ⟨l0, hl0, rfl⟩ := hmem
  apply le_antisymm
  · refine Finset.sup_le fun l hl => ?_
    have hl := Finset.mem_range.1 hl
    by_cases h : vocab (w l) l = vocab (w l0) l0
    · rw [if_pos h, (H l hl).second, ← h]
      refine Finset.sup_le fun j hj => ?_
      have hj' := Finset.mem_erase.1 hj
      exact Finset.le_sup (f := L) (Finset.mem_erase.2
        ⟨fun e => hj'.1 (vocab_inj hl hl e).1, Finset.mem_range.2 (vocab_lt (Finset.mem_range.1 hj'.2) hl)⟩)
    · rw [if_neg h, (H l hl).best]
      refine Finset.sup_le fun j hj => ?_
      refine Finset.le_sup (f := L) (Finset.mem_erase.2
        ⟨fun e => h ?_, Finset.mem_range.2 (vocab_lt (Finset.mem_range.1 hj) hl)⟩)
      obtain ⟨-, rfl⟩ := vocab_inj hl hl0 e
      rfl
  · refine Finset.sup_le fun v hv => ?_
    obtain ⟨hne, hv⟩ := Finset.mem_erase.1 hv
    obtain ⟨j, hj, l, hl, rfl⟩ := exists_vocab (Finset.mem_range.1 hv)
    refine le_trans ?_ (Finset.le_sup (f := fun l => if vocab (w l) l = vocab (w l0) l0 then s l else b l)
      (Finset.mem_range.2 hl))
    by_cases h : vocab (w l) l = vocab (w l0) l0
    · simp only [if_pos h]
      rw [(H l hl).second]
      exact Finset.le_sup (f := fun j => L (vocab j l)) (Finset.mem_erase.2
        ⟨fun e => hne (by rw [e, h]), Finset.mem_range.2 hj⟩)
    · simp only [if_neg h]
      rw [(H l hl).best]
      exact Finset.le_sup (f := fun j => L (vocab j l)) (Finset.mem_range.2 hj)

end Lanes

end Cert.Top2

end
-- ==== Proof.FirstLargest.lean ====
/-
  The host's arg-max: a fold of pairs that keeps the larger value, and of equal values the smaller index. What it leaves is the
  largest value and the least index where it stands.
-/
module

public import proofs.«01_k».proof.Defs
public import proofs.«01_k».proof.Proof.Folds
public import proofs.«01_k».proof.Proof.ReferenceRun
public import proofs.«01_k».proof.Proof.Top2
public import Idealize.ShloMosaic.PureOps.Ideal.Laws

@[expose] public section

noncomputable section

namespace Cert.RefRun

open Idealize.ShloMosaic Cert.ReferenceIdeal

/-- One step of the fold. -/
theorem pick_eq (a b : EReal) (i j : ℕ) (hi : i < 2147483648) (hj : j < 2147483648) :
    reducer_argmax_f32_i32 (F := Ideal) (a, BitVec.ofNat 32 i) (b, BitVec.ofNat 32 j)
      = (max a b, BitVec.ofNat 32 (if b < a ∨ (a = b ∧ i < j) then i else j)) := by
  have hs : IntOp.cmpi .slt (BitVec.ofNat 32 i) (BitVec.ofNat 32 j) = BitVec.ofBool (decide (i < j)) := by
    show BitVec.ofBool ((BitVec.ofNat 32 i).slt (BitVec.ofNat 32 j)) = _
    rw [BitVec.slt_eq_decide, Folds.toInt_ofNat hi, Folds.toInt_ofNat hj]
    simp
  unfold reducer_argmax_f32_i32
  simp only [Ideal.cmpf_def, Ideal.cmp, hs]
  rcases lt_trichotomy a b with h | h | h
  · simp [IntOp.ori, IntOp.andi, Scalar.select, h.not_gt, h.ne, h.le, h.not_ge]
  · subst h
    by_cases hij : i < j <;> simp [IntOp.ori, IntOp.andi, Scalar.select, hij]
  · simp [IntOp.ori, IntOp.andi, Scalar.select, h, h.le, h.ne']

/-- The fold over a list. -/
theorem foldl_pick {α : Type} (f : α → EReal) (k : α → ℕ) (l : List α) (hk : ∀ n ∈ l, k n < 2147483648) (b0 : EReal) (i0 : ℕ) (h0 : i0 < 2147483648) :
    ∃ b w, (l.map fun n => (f n, BitVec.ofNat 32 (k n))).foldl (reducer_argmax_f32_i32 (F := Ideal)) (b0, BitVec.ofNat 32 i0) = (b, BitVec.ofNat 32 w)
      ∧ (b0 ≤ b ∧ (b0 = b → w ≤ i0)) ∧ (∀ n ∈ l, f n ≤ b ∧ (f n = b → w ≤ k n)) ∧ ((b = b0 ∧ w = i0) ∨ ∃ n ∈ l, f n = b ∧ k n = w) := by
  induction l generalizing b0 i0 with
  | nil => exact ⟨b0, i0, rfl, ⟨le_refl _, fun _ => le_refl _⟩, fun n hn => absurd hn List.not_mem_nil, Or.inl ⟨rfl, rfl⟩⟩
  | cons n l ih =>
    have hn := hk n List.mem_cons_self
    have hstep := pick_eq b0 (f n) i0 (k n) h0 hn
    have hlt : (if f n < b0 ∨ (b0 = f n ∧ i0 < k n) then i0 else k n) < 2147483648 := by split_ifs <;> assumption
    obtain ⟨b, w, e, hs, hall, hmem⟩ := ih (fun x hx => hk x (List.mem_cons_of_mem _ hx)) (max b0 (f n)) _ hlt
    refine ⟨b, w, ?_, ⟨(le_max_left _ _).trans hs.1, fun hb => ?_⟩, fun x hx => ?_, ?_⟩
    · rw [List.map_cons, List.foldl_cons, hstep, e]
    · have hm : max b0 (f n) = b := le_antisymm hs.1 (hb ▸ le_max_left _ _)
      have hw := hs.2 hm
      have hle : f n ≤ b0 := hb ▸ (le_max_right b0 (f n)).trans hs.1
      by_cases hc : f n < b0 ∨ (b0 = f n ∧ i0 < k n)
      · rwa [if_pos hc] at hw
      · rw [if_neg hc] at hw
        have hne : b0 = f n := le_antisymm (not_lt.mp fun h => hc (Or.inl h)) hle
        have : ¬ i0 < k n := fun h => hc (Or.inr ⟨hne, h⟩)
        omega
    · rcases List.mem_cons.mp hx with rfl | hx
      · refine ⟨(le_max_right _ _).trans hs.1, fun hb => ?_⟩
        have hm : max b0 (f x) = b := le_antisymm hs.1 (hb ▸ le_max_right _ _)
        have hw := hs.2 hm
        have hle : b0 ≤ f x := hb ▸ (le_max_left b0 (f x)).trans hs.1
        by_cases hc : f x < b0 ∨ (b0 = f x ∧ i0 < k x)
        · rw [if_pos hc] at hw
          rcases hc with hc | hc
          · exact absurd hc (not_lt.mpr hle)
          · omega
        · rwa [if_neg hc] at hw
      · exact hall x hx
    · rcases hmem with ⟨hb, hw⟩ | ⟨x, hx, h⟩
      · by_cases hc : f n < b0 ∨ (b0 = f n ∧ i0 < k n)
        · rw [if_pos hc] at hw
          refine Or.inl ⟨?_, hw⟩
          rw [hb]
          rcases hc with hc | hc
          · exact max_eq_left hc.le
          · exact max_eq_left hc.1.ge
        · rw [if_neg hc] at hw
          refine Or.inr ⟨n, List.mem_cons_self, ?_, hw.symm⟩
          rw [hb]
          exact (max_eq_right (not_lt.mp fun h => hc (Or.inl h))).symm
      · exact Or.inr ⟨x, List.mem_cons_of_mem _ hx, h⟩

/-- The arg-max over the fiber of `j`: a bound of the fiber's entries, with the least number of an entry that meets it. -/
theorem argReduce_spec {s t u : Shape} {axes : List (Fin s.rank)} (x : FVec Ideal s .f32) (k : s.Idx → ℕ) (hk : ∀ i, k i < 2147483648) (y : s.Idx → BitVec 32)
    (hy : ∀ i, y i = BitVec.ofNat 32 (k i)) (ix : u.Idx → Ideal .f32) (iy : u.Idx → BitVec 32) (h : s.ReducesTo axes t) (hu : 0 < u.numel)
    (hix : ix (Shape.Idx.first hu) = (⊥ : EReal)) (hiy : iy (Shape.Idx.first hu) = 0#32) (j : t.Idx) :
    ∃ (b : EReal) (w : ℕ), (Host.argReduce (reducer_argmax_f32_i32 (F := Ideal)) x y ix iy h hu j).2 = BitVec.ofNat 32 w
      ∧ (∀ i, h.drop i = j → x i ≤ b ∧ (x i = b → w ≤ k i)) ∧ ((b = ⊥ ∧ w = 0) ∨ ∃ i, h.drop i = j ∧ x i = b ∧ k i = w) := by
  obtain rfl : y = fun i => BitVec.ofNat 32 (k i) := funext hy
  rw [Ideal.argReduce_eq_reduce2, Host.reduce2_eq_foldl_fiber, Host.argReduceFiber, hix, hiy]
  obtain ⟨b, w, e, -, hall, hmem⟩ := foldl_pick (fun n => x (s.rowMajor.symm n)) (fun n => k (s.rowMajor.symm n))
    ((List.finRange s.numel).filter fun n => h.drop (s.rowMajor.symm n) = j) (fun n _ => hk _) ⊥ 0 (by norm_num)
  refine ⟨b, w, congrArg Prod.snd e, fun i hi => ?_, ?_⟩
  · have := hall (s.rowMajor i) (List.mem_filter.mpr ⟨List.mem_finRange _, decide_eq_true (by rw [Equiv.symm_apply_apply]; exact hi)⟩)
    rwa [Equiv.symm_apply_apply] at this
  · rcases hmem with hmem | ⟨n, hn, hb, hw⟩
    · exact Or.inl hmem
    · exact Or.inr ⟨s.rowMajor.symm n, of_decide_eq_true (List.mem_filter.mp hn).2, hb, hw⟩

theorem tokenOf_def (L : FVec Ideal S192x1x64000 .f32) :
    tokenOf (F := Ideal) L = fun j => (Host.argReduce reducer_argmax_f32_i32 L (iotaInDim S192x1x64000 32 2) (constant S_ .f32 0xFF800000#32)
      (constantI S_ 32 0#32) Gen.reducesTo_S192x1x64000_S192x1_d2 Gen.h_S_ j).2 := rfl

/-- The token of a row: the first place where its largest entry stands. -/
theorem first_of_row (L : FVec Ideal S192x1x64000 .f32) (r : Fin 192) (f : ℕ → EReal) (hf : ∀ v : Fin 64000, L (ix3 r 0 v) = f v.val) :
    ∃ tok, Top2.First f 64000 ((Finset.range 64000).sup f) tok ∧ tokenOf (F := Ideal) L (ix2 r 0) = BitVec.ofNat 32 tok := by
  rw [tokenOf_def]
  obtain ⟨b, w, e, hall, hmem⟩ := argReduce_spec L (fun i => (i 2).val)
    (fun i => lt_trans (show (i 2).val < 64000 from (i 2).isLt) (by norm_num)) (iotaInDim S192x1x64000 32 2) (fun i => rfl)
    (constant S_ .f32 0xFF800000#32) (constantI S_ 32 0#32) Gen.reducesTo_S192x1x64000_S192x1_d2 Gen.h_S_ Folds.start_eq_bot rfl (ix2 r 0)
  have hin (v : Fin 64000) : f v.val ≤ b ∧ (f v.val = b → w ≤ v.val) := by
    rw [← hf v]
    refine hall (ix3 r 0 v) ?_
    funext a
    apply Fin.ext
    fin_cases a
    · exact Shape.ReducesTo.drop_apply_val _ _ 0
    · exact Shape.ReducesTo.drop_apply_val _ _ 1
  have hout : ∃ v : Fin 64000, f v.val = b ∧ v.val = w := by
    rcases hmem with ⟨hb, hw⟩ | ⟨i, hd, hb, hw⟩
    · refine ⟨0, ?_, hw.symm⟩
      have := (hin 0).1
      rw [hb] at this ⊢
      exact le_bot_iff.mp this
    · refine ⟨⟨(i 2).val, (i 2).isLt⟩, (hf _).symm.trans ((congrArg L ?_).trans hb), hw⟩
      funext a
      apply Fin.ext
      fin_cases a
      · have h := congrArg (fun j : S192x1.Idx => (j 0).val) hd
        exact h.symm.trans (Shape.ReducesTo.drop_apply_val _ _ 0)
      · have := (i 1).isLt
        show 0 = (i 1).val
        change (i 1).val < 1 at this
        omega
      · rfl
  obtain ⟨v, hv, rfl⟩ := hout
  have hsup : (Finset.range 64000).sup f = b := by
    refine le_antisymm (Finset.sup_le fun u hu => (hin ⟨u, Finset.mem_range.1 hu⟩).1) ?_
    rw [← hv]
    exact Finset.le_sup (Finset.mem_range.2 v.isLt)
  refine ⟨v.val, ⟨v.isLt, hv.trans hsup.symm, fun j hj => ?_⟩, e⟩
  rw [hsup]
  have h := hin ⟨j, hj.trans v.isLt⟩
  refine lt_of_le_of_ne h.1 fun he => ?_
  have := h.2 he
  dsimp only at this
  omega

end Cert.RefRun
-- ==== Proof.Tile.lean ====
/-
  One grid point stores the dequantized weights into the scratch `w_t` as 224 blocks of 64 rows and 128 columns. This module writes a block ONCE, for the
  sub-tile `s`, the column group `t`, the row parity `par` and the scale group `i` it belongs to, in the operations of the printed body; and states that
  the pieces the three cases of the body leave are these blocks.
-/
module

public import proofs.«01_k».proof.Proof.Gen.KernelIdeal.Frame

@[expose] public section

set_option maxRecDepth 16384

noncomputable section

namespace Cert.Tile

open Cert.KernelIdeal Cert.KernelIdeal.Gen
open Idealize.ShloMosaic Idealize.ShloMosaic.TcCoe Idealize.ShloMosaic.Tactic

variable {F : FTy → Type} [FloatOps F]

theorem inb_bytes (s : Fin 2) (t : Fin 7) (h : Fin 2) :
    ∀ a, (![256 * s.val, 256 * t.val + 128 * h.val] : Fin 2 → Nat) a + S256x128.size a ≤ S512x1792.size a := by
  intro a
  have := s.isLt; have := t.isLt; have := h.isLt
  fin_cases a
  · show 256 * s.val + 256 ≤ 512; omega
  · show 256 * t.val + 128 * h.val + 128 ≤ 1792; omega

theorem inb_scales (s : Fin 2) :
    ∀ a, (![256 * s.val, 0] : Fin 2 → Nat) a + S256x112.size a ≤ S512x112.size a := by
  intro a
  have := s.isLt
  fin_cases a
  · show 256 * s.val + 256 ≤ 512; omega
  · show 0 + 112 ≤ 112; omega

theorem inb_group (par : Fin 2) (g : Fin 112) :
    ∀ a, (![par.val, g.val, 0, 0] : Fin 4 → Nat) a + S1x1x2x128.size a ≤ S2x112x2x128.size a := by
  intro a
  have := par.isLt; have := g.isLt
  fin_cases a
  · show par.val + 1 ≤ 2; omega
  · show g.val + 1 ≤ 112; omega
  · show 0 + 2 ≤ 2; omega
  · show 0 + 128 ≤ 128; omega

theorem inb_block (s : Fin 2) (t : Fin 7) (par : Fin 2) (i : Fin 8) :
    ∀ a, (![512 * t.val + 64 * i.val, 256 * s.val + 128 * par.val] : Fin 2 → Nat) a + S64x128.size a ≤ S3584x512.size a := by
  intro a
  have := s.isLt; have := t.isLt; have := par.isLt; have := i.isLt
  fin_cases a
  · show 512 * t.val + 64 * i.val + 64 ≤ 3584; omega
  · show 256 * s.val + 128 * par.val + 128 ≤ 512; omega

theorem slices_block (i : Fin 8) : Shape.Slices S512x128 (![64 * i.val, 0] : Fin 2 → Nat) S64x128 := by
  refine ⟨rfl, fun a => ?_⟩
  have := i.isLt
  fin_cases a
  · show 64 * i.val + 64 ≤ 512; omega
  · show 0 + 128 ≤ 128; omega

/-- The bytes of sub-tile `s` in the columns of group `t`, half `h`, as words of four vocabulary rows. -/
def words {arg2 : Memref sig .tc .vmem S512x1792 .i8} (harg2 : arg2.IsWhole) (x1 : Vec F S512x1792 .i8) (s : Fin 2) (t : Fin 7) (h : Fin 2) : IVec S64x128 32 :=
  k0_pay11 (View.readAt (Elt F) arg2.view (Rect.unit (s := S512x1792) ![256 * s.val, 256 * t.val + 128 * h.val] S256x128.size (inb_bytes s t h)).toLoadRect (harg2.unread x1))

/-- The codes of group `t` for the vocabulary rows of parity `par`: row `4 * p + n` holds nibble `n` of column `p`. -/
def codes (a b : IVec S64x128 32) (par : Fin 2) : FVec F S512x128 .bf16 :=
  if par.val = 0 then k0_pay14 a b else k0_pay16 (k0_pay15 a b)

/-- The scale rows sub-tile `s` leaves, over those of the sub-tile before it. -/
def scalePieces {arg3 : Memref sig .tc .vmem S512x112 .bf16} (harg3 : arg3.IsWhole) (x2 : Vec F S512x112 .bf16) (s : Fin 2) : List (View.Piece (Elt F) S2x112x2x128 .bf16) :=
  [⟨Rect.unit (s := S2x112x2x128) ![1, 0, 0, 0] S1x112x2x128.size inb_S2x112x2x128_S1x112x2x128_1_0_0_0,
    k0_pay10 (View.readAt (Elt F) arg3.view (Rect.unit (s := S512x112) ![256 * s.val, 0] S256x112.size (inb_scales s)).toLoadRect (harg3.unread x2))⟩,
   ⟨Rect.unit (s := S2x112x2x128) ![0, 0, 0, 0] S1x112x2x128.size inb_S2x112x2x128_S1x112x2x128_0_0_0_0,
    k0_pay9 (View.readAt (Elt F) arg3.view (Rect.unit (s := S512x112) ![256 * s.val, 0] S256x112.size (inb_scales s)).toLoadRect (harg3.unread x2))⟩]

/-- All the scale rows stored when sub-tile `s` is worked on. -/
def scalesAt {arg3 : Memref sig .tc .vmem S512x112 .bf16} (harg3 : arg3.IsWhole) (x2 : Vec F S512x112 .bf16) (s : Fin 2) : List (View.Piece (Elt F) S2x112x2x128 .bf16) :=
  if s.val = 0 then scalePieces harg3 x2 0 else scalePieces harg3 x2 1 ++ scalePieces harg3 x2 0

/-- The scale row of group `g` and parity `par`, read back from the scratch. -/
def scaleRow {arg3 : Memref sig .tc .vmem S512x112 .bf16} (harg3 : arg3.IsWhole) (arg8 : Memref sig .tc .vmem S2x112x2x128 .bf16) (x2 : Vec F S512x112 .bf16)
    (s par : Fin 2) (g : Fin 112) : Vec F S1x1x2x128 .bf16 :=
  arg8.view.readCov (scalesAt harg3 x2 s) (Rect.unit (s := S2x112x2x128) ![par.val, g.val, 0, 0] S1x1x2x128.size (inb_group par g)).toLoadRect

/-- Eight rows, each the row `row` with the pair `q` of its two equal entries. -/
def row8 (row : Vec F S1x1x2x128 .bf16) (q : Int) : FVec F S8x128 .bf16 :=
  if q = 0 then k0_pay18 row else k0_pay19 row

/-- Block `i` of the codes, times its scales: rows alternate in pairs between the two groups' scales. -/
def block (i : Fin 8) (cs : FVec F S512x128 .bf16) (rowA rowB : Vec F S1x1x2x128 .bf16) : FVec F S64x128 .bf16 :=
  have lo : FVec F S8x128 .bf16 := select k0_pay13 (row8 rowB 0) (row8 rowA 0)
  have hi : FVec F S8x128 .bf16 := select k0_pay13 (row8 rowB 1) (row8 rowA 1)
  have sc : FVec F S16x128 .bf16 := interleaveRows S16x128 lo hi bitcasts_S16x128_w16_S8x128_w32
  have v : FVec F S64x128 .bf16 := concatenate S64x128 0 [⟨S16x128, sc⟩, ⟨S16x128, sc⟩, ⟨S16x128, sc⟩, ⟨S16x128, sc⟩] concatenates_S16x128_S16x128_S16x128_S16x128_S64x128_d0
  shapeCast S64x128 (mulf (extractStridedSlice S64x128 ![64 * i.val, 0] cs (slices_block i)) v) shapeCasts_S64x128_S64x128

/-- The piece of one block. -/
def piece {arg2 : Memref sig .tc .vmem S512x1792 .i8} (harg2 : arg2.IsWhole) {arg3 : Memref sig .tc .vmem S512x112 .bf16} (harg3 : arg3.IsWhole)
    (arg8 : Memref sig .tc .vmem S2x112x2x128 .bf16) (x1 : Vec F S512x1792 .i8) (x2 : Vec F S512x112 .bf16)
    (s : Fin 2) (t : Fin 7) (par : Fin 2) (i : Fin 8) : View.Piece (Elt F) S3584x512 .bf16 :=
  ⟨Rect.unit (s := S3584x512) ![512 * t.val + 64 * i.val, 256 * s.val + 128 * par.val] S64x128.size (inb_block s t par i),
   block i (codes (words harg2 x1 s t 0) (words harg2 x1 s t 1) par)
     (scaleRow harg3 arg8 x2 s par ⟨16 * t.val + i.val, by omega⟩) (scaleRow harg3 arg8 x2 s par ⟨16 * t.val + 8 + i.val, by omega⟩)⟩

/-- The eight pieces of a group, last first. -/
def pieces8 {arg2 : Memref sig .tc .vmem S512x1792 .i8} (harg2 : arg2.IsWhole) {arg3 : Memref sig .tc .vmem S512x112 .bf16} (harg3 : arg3.IsWhole)
    (arg8 : Memref sig .tc .vmem S2x112x2x128 .bf16) (x1 : Vec F S512x1792 .i8) (x2 : Vec F S512x112 .bf16)
    (s : Fin 2) (t : Fin 7) (par : Fin 2) : List (View.Piece (Elt F) S3584x512 .bf16) :=
  [7, 6, 5, 4, 3, 2, 1, 0].map (piece harg2 harg3 arg8 x1 x2 s t par)

/-- The sixteen pieces of a column group, and all of them, last first. -/
def pieces {arg2 : Memref sig .tc .vmem S512x1792 .i8} (harg2 : arg2.IsWhole) {arg3 : Memref sig .tc .vmem S512x112 .bf16} (harg3 : arg3.IsWhole)
    (arg8 : Memref sig .tc .vmem S2x112x2x128 .bf16) (x1 : Vec F S512x1792 .i8) (x2 : Vec F S512x112 .bf16) : List (View.Piece (Elt F) S3584x512 .bf16) :=
  ([1, 0] : List (Fin 2)).flatMap fun s => ([6, 5, 4, 3, 2, 1, 0] : List (Fin 7)).flatMap fun t =>
    ([1, 0] : List (Fin 2)).flatMap fun par => pieces8 harg2 harg3 arg8 x1 x2 s t par

/-! The pieces each case of the body leaves are these. -/

theorem pieces_A (c : Dev nD) {arg2 : Memref sig .tc .vmem S512x1792 .i8} (harg2 : arg2.IsWhole) {arg3 : Memref sig .tc .vmem S512x112 .bf16} (harg3 : arg3.IsWhole)
    (arg8 : Memref sig .tc .vmem S2x112x2x128 .bf16) (x1 : Vec F S512x1792 .i8) (x2 : Vec F S512x112 .bf16) :
    kernelRun0_A.sl.HS0_224 c arg2 harg2 arg3 harg3 arg8 x1 x2 = pieces harg2 harg3 arg8 x1 x2 := by
  sl_kernel_rfl

theorem pieces_B (c : Dev nD) {arg2 : Memref sig .tc .vmem S512x1792 .i8} (harg2 : arg2.IsWhole) {arg3 : Memref sig .tc .vmem S512x112 .bf16} (harg3 : arg3.IsWhole)
    (arg8 : Memref sig .tc .vmem S2x112x2x128 .bf16) (x1 : Vec F S512x1792 .i8) (x2 : Vec F S512x112 .bf16) :
    kernelRun0_B.sl.HS0_224 c arg2 harg2 arg3 harg3 arg8 x1 x2 = pieces harg2 harg3 arg8 x1 x2 := by
  sl_kernel_rfl

theorem pieces_C (c : Dev nD) {arg2 : Memref sig .tc .vmem S512x1792 .i8} (harg2 : arg2.IsWhole) {arg3 : Memref sig .tc .vmem S512x112 .bf16} (harg3 : arg3.IsWhole)
    (arg8 : Memref sig .tc .vmem S2x112x2x128 .bf16) (x1 : Vec F S512x1792 .i8) (x2 : Vec F S512x112 .bf16) :
    kernelRun0_C.sl.HS0_224 c arg2 harg2 arg3 harg3 arg8 x1 x2 = pieces harg2 harg3 arg8 x1 x2 := by
  sl_kernel_rfl

end Cert.Tile
-- ==== Proof.Steps.lean ====
/-
  What one grid point leaves in the three carried scratches — the best logit of each lane, the second best, and the number of the chunk that holds the best —
  as plain functions of the step's logits and of what it found there; for each of the three cases of the body.
-/
module

public import proofs.«01_k».proof.Proof.Tile
public import Idealize.ShloMosaic.Lib.Pipeline.ValueKit.Acc
public import Idealize.ShloMosaic.Lib.Pipeline.ReadBack
public import Idealize.ShloMosaic.Lib.Pointwise.Reshape

@[expose] public section

noncomputable section

namespace Cert.Tile

open Cert.KernelIdeal Cert.KernelIdeal.Gen
open Idealize.ShloMosaic Idealize.ShloMosaic.TcCoe Idealize.ShloMosaic.Tactic

variable {F : FTy → Type} [FloatOps F]

theorem slices_lane (k : Fin 4) : Shape.Slices S192x512 (![0, 128 * k.val] : Fin 2 → Nat) S192x128 := by
  refine ⟨rfl, fun a => ?_⟩
  have := k.isLt
  fin_cases a
  · show 0 + 192 ≤ 192; omega
  · show 128 * k.val + 128 ≤ 512; omega

/-- Chunk `k` of a step's logits. -/
def chunk (k : Fin 4) (lg : FVec F S192x512 .f32) : FVec F S192x128 .f32 :=
  extractStridedSlice S192x128 ![0, 128 * k.val] lg (slices_lane k)

/-- Chunk `k` joined into the best logits, the second best, and the numbers of the best one's chunk. -/
def best (k : Fin 4) (lg : FVec F S192x512 .f32) (b : FVec F S192x128 .f32) : FVec F S192x128 .f32 := maximumf b (chunk k lg)
def second (k : Fin 4) (lg : FVec F S192x512 .f32) (b s : FVec F S192x128 .f32) : FVec F S192x128 .f32 := maximumf s (minimumf b (chunk k lg))
def place (k : Fin 4) (n : BitVec 32) (lg : FVec F S192x512 .f32) (b : FVec F S192x128 .f32) (w : IVec S192x128 32) : IVec S192x128 32 :=
  select (cmpf .ogt (chunk k lg) b) (broadcast S192x128 (Scalar.addi (Scalar.muli n 4#32) (BitVec.ofNat 32 k.val))) w

/-- The three after `k` chunks of a step. -/
def bests (lg : FVec F S192x512 .f32) (b : FVec F S192x128 .f32) : FVec F S192x128 .f32 := best 3 lg (best 2 lg (best 1 lg (best 0 lg b)))
def seconds (lg : FVec F S192x512 .f32) (b s : FVec F S192x128 .f32) : FVec F S192x128 .f32 :=
  second 3 lg (best 2 lg (best 1 lg (best 0 lg b))) (second 2 lg (best 1 lg (best 0 lg b)) (second 1 lg (best 0 lg b) (second 0 lg b s)))
def places (n : BitVec 32) (lg : FVec F S192x512 .f32) (b : FVec F S192x128 .f32) (w : IVec S192x128 32) : IVec S192x128 32 :=
  place 3 n lg (best 2 lg (best 1 lg (best 0 lg b))) (place 2 n lg (best 1 lg (best 0 lg b)) (place 1 n lg (best 0 lg b) (place 0 n lg b w)))

variable (c : Dev nD) (i : grid0.Coords) (arg1 : Memref sig .tc .vmem S192x3584 .bf16) (harg1 : arg1.IsWhole) (arg2 : Memref sig .tc .vmem S512x1792 .i8) (harg2 : arg2.IsWhole)
  (arg3 : Memref sig .tc .vmem S512x112 .bf16) (harg3 : arg3.IsWhole) (arg4 : Memref sig .tc .vmem S192x1 .i32) (harg4 : arg4.IsWhole) (arg5 : Memref sig .tc .vmem S192x1 .f32)
  (harg5 : arg5.IsWhole) (arg6 : Memref sig .tc .vmem S192x1 .f32) (harg6 : arg6.IsWhole) (arg7 : Memref sig .tc .vmem S3584x512 .bf16) (harg7 : arg7.IsWhole)
  (arg8 : Memref sig .tc .vmem S2x112x2x128 .bf16) (harg8 : arg8.IsWhole) (arg9 : Memref sig .tc .vmem S192x128 .f32) (harg9 : arg9.IsWhole)
  (arg10 : Memref sig .tc .vmem S192x128 .f32) (harg10 : arg10.IsWhole) (arg11 : Memref sig .tc .vmem S192x128 .i32) (harg11 : arg11.IsWhole)
  (x0 : Vec F S192x3584 .bf16) (x1 : Vec F S512x1792 .i8) (x2 : Vec F S512x112 .bf16)

/-- The dequantized weights of a step: what its 224 blocks leave. -/
def tile : Vec F S3584x512 .bf16 := View.canon (pieces harg2 harg3 arg8 x1 x2)

/-- The step's logits. -/
def stepLogits : FVec F S192x512 .f32 := k0_pay548 x0 (tile arg2 harg2 arg3 harg3 arg8 x1 x2)

theorem weights_A : kernelRun0_A.sl.v4047 c arg2 harg2 arg3 harg3 arg7 arg8 x1 x2 = tile arg2 harg2 arg3 harg3 arg8 x1 x2 := by
  unfold kernelRun0_A.sl.v4047
  rw [pieces_A, View.readCov_eq_canon']
  exact View.ld_unit_lit' _ (View.canon (pieces harg2 harg3 arg8 x1 x2)) (by decide)

theorem weights_B : kernelRun0_B.sl.v4047 c arg2 harg2 arg3 harg3 arg7 arg8 x1 x2 = tile arg2 harg2 arg3 harg3 arg8 x1 x2 := by
  unfold kernelRun0_B.sl.v4047
  rw [pieces_B, View.readCov_eq_canon']
  exact View.ld_unit_lit' _ (View.canon (pieces harg2 harg3 arg8 x1 x2)) (by decide)

theorem weights_C : kernelRun0_C.sl.v4047 c arg2 harg2 arg3 harg3 arg7 arg8 x1 x2 = tile arg2 harg2 arg3 harg3 arg8 x1 x2 := by
  unfold kernelRun0_C.sl.v4047
  rw [pieces_C, View.readCov_eq_canon']
  exact View.ld_unit_lit' _ (View.canon (pieces harg2 harg3 arg8 x1 x2)) (by decide)

theorem best_A (hc0 : cond0_0 i) (hc1 : ¬cond0_1 i)  :
    sout0_A_2 c i arg1 harg1 arg2 harg2 arg3 harg3 arg4 harg4 arg5 harg5 arg6 harg6 arg7 harg7 arg8 harg8 arg9 harg9 arg10 harg10 arg11 harg11 hc0 hc1 x0 x1 x2  = bests (stepLogits arg2 harg2 arg3 harg3 arg8 x0 x1 x2) k0_pay6 := by
  unfold sout0_A_2 kernelRun0_A
  simp (disch := decide) only [View.read_writes_junk_eq_canon, View.canon_cons_unit_lit', View.ld_unit_lit', View.readCov_unit_lit', View.readCov_cons_unit_lit', View.readAt_eq_ld, Memref.IsWhole.read_unread,
    kernelRun0_A.sl.r_279, kernelRun0_A.sl.r_280, kernelRun0_A.sl.r_281, kernelRun0_A.sl.r_282, kernelRun0_A.sl.r_283, kernelRun0_A.sl.v4071, kernelRun0_A.sl.v4072, kernelRun0_A.sl.v4081, kernelRun0_A.sl.v4092, kernelRun0_A.sl.v4093, kernelRun0_A.sl.v4102, kernelRun0_A.sl.v4113, kernelRun0_A.sl.v4114, kernelRun0_A.sl.v4123, kernelRun0_A.sl.v4050, kernelRun0_A.sl.v4051, kernelRun0_A.sl.v4060, kernelRun0_A.sl.HS2_1, kernelRun0_A.sl.HS2_2, kernelRun0_A.sl.HS2_3, kernelRun0_A.sl.HS2_4, kernelRun0_A.sl.HS3_1, kernelRun0_A.sl.HS3_2, kernelRun0_A.sl.HS3_3, kernelRun0_A.sl.HS3_4, kernelRun0_A.sl.HS4_1, kernelRun0_A.sl.HS4_2, kernelRun0_A.sl.HS4_3, kernelRun0_A.sl.HS4_4, weights_A]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

theorem second_A (hc0 : cond0_0 i) (hc1 : ¬cond0_1 i)  :
    sout0_A_3 c i arg1 harg1 arg2 harg2 arg3 harg3 arg4 harg4 arg5 harg5 arg6 harg6 arg7 harg7 arg8 harg8 arg9 harg9 arg10 harg10 arg11 harg11 hc0 hc1 x0 x1 x2  = seconds (stepLogits arg2 harg2 arg3 harg3 arg8 x0 x1 x2) k0_pay6 k0_pay7 := by
  unfold sout0_A_3 kernelRun0_A
  simp (disch := decide) only [View.read_writes_junk_eq_canon, View.canon_cons_unit_lit', View.ld_unit_lit', View.readCov_unit_lit', View.readCov_cons_unit_lit', View.readAt_eq_ld, Memref.IsWhole.read_unread,
    kernelRun0_A.sl.r_279, kernelRun0_A.sl.r_280, kernelRun0_A.sl.r_281, kernelRun0_A.sl.r_282, kernelRun0_A.sl.r_283, kernelRun0_A.sl.v4071, kernelRun0_A.sl.v4072, kernelRun0_A.sl.v4081, kernelRun0_A.sl.v4092, kernelRun0_A.sl.v4093, kernelRun0_A.sl.v4102, kernelRun0_A.sl.v4113, kernelRun0_A.sl.v4114, kernelRun0_A.sl.v4123, kernelRun0_A.sl.v4050, kernelRun0_A.sl.v4051, kernelRun0_A.sl.v4060, kernelRun0_A.sl.HS2_1, kernelRun0_A.sl.HS2_2, kernelRun0_A.sl.HS2_3, kernelRun0_A.sl.HS2_4, kernelRun0_A.sl.HS3_1, kernelRun0_A.sl.HS3_2, kernelRun0_A.sl.HS3_3, kernelRun0_A.sl.HS3_4, kernelRun0_A.sl.HS4_1, kernelRun0_A.sl.HS4_2, kernelRun0_A.sl.HS4_3, kernelRun0_A.sl.HS4_4, weights_A]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

theorem place_A (hc0 : cond0_0 i) (hc1 : ¬cond0_1 i)  :
    sout0_A_4 c i arg1 harg1 arg2 harg2 arg3 harg3 arg4 harg4 arg5 harg5 arg6 harg6 arg7 harg7 arg8 harg8 arg9 harg9 arg10 harg10 arg11 harg11 hc0 hc1 x0 x1 x2  = places (BitVec.ofNat 32 (i 0).val) (stepLogits arg2 harg2 arg3 harg3 arg8 x0 x1 x2) k0_pay6 k0_pay8 := by
  unfold sout0_A_4 kernelRun0_A
  simp (disch := decide) only [View.read_writes_junk_eq_canon, View.canon_cons_unit_lit', View.ld_unit_lit', View.readCov_unit_lit', View.readCov_cons_unit_lit', View.readAt_eq_ld, Memref.IsWhole.read_unread,
    kernelRun0_A.sl.r_279, kernelRun0_A.sl.r_280, kernelRun0_A.sl.r_281, kernelRun0_A.sl.r_282, kernelRun0_A.sl.r_283, kernelRun0_A.sl.v4071, kernelRun0_A.sl.v4072, kernelRun0_A.sl.v4081, kernelRun0_A.sl.v4092, kernelRun0_A.sl.v4093, kernelRun0_A.sl.v4102, kernelRun0_A.sl.v4113, kernelRun0_A.sl.v4114, kernelRun0_A.sl.v4123, kernelRun0_A.sl.v4050, kernelRun0_A.sl.v4051, kernelRun0_A.sl.v4060, kernelRun0_A.sl.HS2_1, kernelRun0_A.sl.HS2_2, kernelRun0_A.sl.HS2_3, kernelRun0_A.sl.HS2_4, kernelRun0_A.sl.HS3_1, kernelRun0_A.sl.HS3_2, kernelRun0_A.sl.HS3_3, kernelRun0_A.sl.HS3_4, kernelRun0_A.sl.HS4_1, kernelRun0_A.sl.HS4_2, kernelRun0_A.sl.HS4_3, kernelRun0_A.sl.HS4_4, weights_A]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

theorem best_B (hc0 : ¬cond0_0 i) (hc1 : ¬cond0_1 i) (xs2 : Vec F S192x128 .f32) (xs3 : Vec F S192x128 .f32) (xs4 : Vec F S192x128 .i32) :
    sout0_B_2 c i arg1 harg1 arg2 harg2 arg3 harg3 arg4 harg4 arg5 harg5 arg6 harg6 arg7 harg7 arg8 harg8 arg9 harg9 arg10 harg10 arg11 harg11 hc0 hc1 x0 x1 x2 xs2 xs3 xs4 = bests (stepLogits arg2 harg2 arg3 harg3 arg8 x0 x1 x2) xs2 := by
  unfold sout0_B_2 kernelRun0_B
  simp (disch := decide) only [View.read_writes_junk_eq_canon, View.canon_cons_unit_lit', View.ld_unit_lit', View.readCov_unit_lit', View.readCov_cons_unit_lit', View.readAt_eq_ld, Memref.IsWhole.read_unread,
    kernelRun0_B.sl.r_279, kernelRun0_B.sl.r_280, kernelRun0_B.sl.r_281, kernelRun0_B.sl.r_282, kernelRun0_B.sl.r_283, kernelRun0_B.sl.v4071, kernelRun0_B.sl.v4072, kernelRun0_B.sl.v4081, kernelRun0_B.sl.v4092, kernelRun0_B.sl.v4093, kernelRun0_B.sl.v4102, kernelRun0_B.sl.v4113, kernelRun0_B.sl.v4114, kernelRun0_B.sl.v4123, kernelRun0_B.sl.HS2_1, kernelRun0_B.sl.HS2_2, kernelRun0_B.sl.HS2_3, kernelRun0_B.sl.HS3_1, kernelRun0_B.sl.HS3_2, kernelRun0_B.sl.HS3_3, kernelRun0_B.sl.HS4_1, kernelRun0_B.sl.HS4_2, kernelRun0_B.sl.HS4_3, weights_B]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

theorem second_B (hc0 : ¬cond0_0 i) (hc1 : ¬cond0_1 i) (xs2 : Vec F S192x128 .f32) (xs3 : Vec F S192x128 .f32) (xs4 : Vec F S192x128 .i32) :
    sout0_B_3 c i arg1 harg1 arg2 harg2 arg3 harg3 arg4 harg4 arg5 harg5 arg6 harg6 arg7 harg7 arg8 harg8 arg9 harg9 arg10 harg10 arg11 harg11 hc0 hc1 x0 x1 x2 xs2 xs3 xs4 = seconds (stepLogits arg2 harg2 arg3 harg3 arg8 x0 x1 x2) xs2 xs3 := by
  unfold sout0_B_3 kernelRun0_B
  simp (disch := decide) only [View.read_writes_junk_eq_canon, View.canon_cons_unit_lit', View.ld_unit_lit', View.readCov_unit_lit', View.readCov_cons_unit_lit', View.readAt_eq_ld, Memref.IsWhole.read_unread,
    kernelRun0_B.sl.r_279, kernelRun0_B.sl.r_280, kernelRun0_B.sl.r_281, kernelRun0_B.sl.r_282, kernelRun0_B.sl.r_283, kernelRun0_B.sl.v4071, kernelRun0_B.sl.v4072, kernelRun0_B.sl.v4081, kernelRun0_B.sl.v4092, kernelRun0_B.sl.v4093, kernelRun0_B.sl.v4102, kernelRun0_B.sl.v4113, kernelRun0_B.sl.v4114, kernelRun0_B.sl.v4123, kernelRun0_B.sl.HS2_1, kernelRun0_B.sl.HS2_2, kernelRun0_B.sl.HS2_3, kernelRun0_B.sl.HS3_1, kernelRun0_B.sl.HS3_2, kernelRun0_B.sl.HS3_3, kernelRun0_B.sl.HS4_1, kernelRun0_B.sl.HS4_2, kernelRun0_B.sl.HS4_3, weights_B]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

theorem place_B (hc0 : ¬cond0_0 i) (hc1 : ¬cond0_1 i) (xs2 : Vec F S192x128 .f32) (xs3 : Vec F S192x128 .f32) (xs4 : Vec F S192x128 .i32) :
    sout0_B_4 c i arg1 harg1 arg2 harg2 arg3 harg3 arg4 harg4 arg5 harg5 arg6 harg6 arg7 harg7 arg8 harg8 arg9 harg9 arg10 harg10 arg11 harg11 hc0 hc1 x0 x1 x2 xs2 xs3 xs4 = places (BitVec.ofNat 32 (i 0).val) (stepLogits arg2 harg2 arg3 harg3 arg8 x0 x1 x2) xs2 xs4 := by
  unfold sout0_B_4 kernelRun0_B
  simp (disch := decide) only [View.read_writes_junk_eq_canon, View.canon_cons_unit_lit', View.ld_unit_lit', View.readCov_unit_lit', View.readCov_cons_unit_lit', View.readAt_eq_ld, Memref.IsWhole.read_unread,
    kernelRun0_B.sl.r_279, kernelRun0_B.sl.r_280, kernelRun0_B.sl.r_281, kernelRun0_B.sl.r_282, kernelRun0_B.sl.r_283, kernelRun0_B.sl.v4071, kernelRun0_B.sl.v4072, kernelRun0_B.sl.v4081, kernelRun0_B.sl.v4092, kernelRun0_B.sl.v4093, kernelRun0_B.sl.v4102, kernelRun0_B.sl.v4113, kernelRun0_B.sl.v4114, kernelRun0_B.sl.v4123, kernelRun0_B.sl.HS2_1, kernelRun0_B.sl.HS2_2, kernelRun0_B.sl.HS2_3, kernelRun0_B.sl.HS3_1, kernelRun0_B.sl.HS3_2, kernelRun0_B.sl.HS3_3, kernelRun0_B.sl.HS4_1, kernelRun0_B.sl.HS4_2, kernelRun0_B.sl.HS4_3, weights_B]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

theorem best_C (hc0 : ¬cond0_0 i) (hc1 : cond0_1 i) (xs2 : Vec F S192x128 .f32) (xs3 : Vec F S192x128 .f32) (xs4 : Vec F S192x128 .i32) :
    sout0_C_2 c i arg1 harg1 arg2 harg2 arg3 harg3 arg4 harg4 arg5 harg5 arg6 harg6 arg7 harg7 arg8 harg8 arg9 harg9 arg10 harg10 arg11 harg11 hc0 hc1 x0 x1 x2 xs2 xs3 xs4 = bests (stepLogits arg2 harg2 arg3 harg3 arg8 x0 x1 x2) xs2 := by
  unfold sout0_C_2 kernelRun0_C
  simp (disch := decide) only [View.read_writes_junk_eq_canon, View.canon_cons_unit_lit', View.ld_unit_lit', View.readCov_unit_lit', View.readCov_cons_unit_lit', View.readAt_eq_ld, Memref.IsWhole.read_unread,
    kernelRun0_C.sl.r_279, kernelRun0_C.sl.r_280, kernelRun0_C.sl.r_281, kernelRun0_C.sl.r_282, kernelRun0_C.sl.r_283, kernelRun0_C.sl.v4071, kernelRun0_C.sl.v4072, kernelRun0_C.sl.v4081, kernelRun0_C.sl.v4092, kernelRun0_C.sl.v4093, kernelRun0_C.sl.v4102, kernelRun0_C.sl.v4113, kernelRun0_C.sl.v4114, kernelRun0_C.sl.v4123, kernelRun0_C.sl.v4137, kernelRun0_C.sl.v4148, kernelRun0_C.sl.v4159, kernelRun0_C.sl.HS2_1, kernelRun0_C.sl.HS2_2, kernelRun0_C.sl.HS2_3, kernelRun0_C.sl.HS2_4, kernelRun0_C.sl.HS3_1, kernelRun0_C.sl.HS3_2, kernelRun0_C.sl.HS3_3, kernelRun0_C.sl.HS3_4, kernelRun0_C.sl.HS4_1, kernelRun0_C.sl.HS4_2, kernelRun0_C.sl.HS4_3, kernelRun0_C.sl.HS4_4, weights_C]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

theorem second_C (hc0 : ¬cond0_0 i) (hc1 : cond0_1 i) (xs2 : Vec F S192x128 .f32) (xs3 : Vec F S192x128 .f32) (xs4 : Vec F S192x128 .i32) :
    sout0_C_3 c i arg1 harg1 arg2 harg2 arg3 harg3 arg4 harg4 arg5 harg5 arg6 harg6 arg7 harg7 arg8 harg8 arg9 harg9 arg10 harg10 arg11 harg11 hc0 hc1 x0 x1 x2 xs2 xs3 xs4 = seconds (stepLogits arg2 harg2 arg3 harg3 arg8 x0 x1 x2) xs2 xs3 := by
  unfold sout0_C_3 kernelRun0_C
  simp (disch := decide) only [View.read_writes_junk_eq_canon, View.canon_cons_unit_lit', View.ld_unit_lit', View.readCov_unit_lit', View.readCov_cons_unit_lit', View.readAt_eq_ld, Memref.IsWhole.read_unread,
    kernelRun0_C.sl.r_279, kernelRun0_C.sl.r_280, kernelRun0_C.sl.r_281, kernelRun0_C.sl.r_282, kernelRun0_C.sl.r_283, kernelRun0_C.sl.v4071, kernelRun0_C.sl.v4072, kernelRun0_C.sl.v4081, kernelRun0_C.sl.v4092, kernelRun0_C.sl.v4093, kernelRun0_C.sl.v4102, kernelRun0_C.sl.v4113, kernelRun0_C.sl.v4114, kernelRun0_C.sl.v4123, kernelRun0_C.sl.v4137, kernelRun0_C.sl.v4148, kernelRun0_C.sl.v4159, kernelRun0_C.sl.HS2_1, kernelRun0_C.sl.HS2_2, kernelRun0_C.sl.HS2_3, kernelRun0_C.sl.HS2_4, kernelRun0_C.sl.HS3_1, kernelRun0_C.sl.HS3_2, kernelRun0_C.sl.HS3_3, kernelRun0_C.sl.HS3_4, kernelRun0_C.sl.HS4_1, kernelRun0_C.sl.HS4_2, kernelRun0_C.sl.HS4_3, kernelRun0_C.sl.HS4_4, weights_C]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

theorem place_C (hc0 : ¬cond0_0 i) (hc1 : cond0_1 i) (xs2 : Vec F S192x128 .f32) (xs3 : Vec F S192x128 .f32) (xs4 : Vec F S192x128 .i32) :
    sout0_C_4 c i arg1 harg1 arg2 harg2 arg3 harg3 arg4 harg4 arg5 harg5 arg6 harg6 arg7 harg7 arg8 harg8 arg9 harg9 arg10 harg10 arg11 harg11 hc0 hc1 x0 x1 x2 xs2 xs3 xs4 = places (BitVec.ofNat 32 (i 0).val) (stepLogits arg2 harg2 arg3 harg3 arg8 x0 x1 x2) xs2 xs4 := by
  unfold sout0_C_4 kernelRun0_C
  simp (disch := decide) only [View.read_writes_junk_eq_canon, View.canon_cons_unit_lit', View.ld_unit_lit', View.readCov_unit_lit', View.readCov_cons_unit_lit', View.readAt_eq_ld, Memref.IsWhole.read_unread,
    kernelRun0_C.sl.r_279, kernelRun0_C.sl.r_280, kernelRun0_C.sl.r_281, kernelRun0_C.sl.r_282, kernelRun0_C.sl.r_283, kernelRun0_C.sl.v4071, kernelRun0_C.sl.v4072, kernelRun0_C.sl.v4081, kernelRun0_C.sl.v4092, kernelRun0_C.sl.v4093, kernelRun0_C.sl.v4102, kernelRun0_C.sl.v4113, kernelRun0_C.sl.v4114, kernelRun0_C.sl.v4123, kernelRun0_C.sl.v4137, kernelRun0_C.sl.v4148, kernelRun0_C.sl.v4159, kernelRun0_C.sl.HS2_1, kernelRun0_C.sl.HS2_2, kernelRun0_C.sl.HS2_3, kernelRun0_C.sl.HS2_4, kernelRun0_C.sl.HS3_1, kernelRun0_C.sl.HS3_2, kernelRun0_C.sl.HS3_3, kernelRun0_C.sl.HS3_4, kernelRun0_C.sl.HS4_1, kernelRun0_C.sl.HS4_2, kernelRun0_C.sl.HS4_3, kernelRun0_C.sl.HS4_4, weights_C]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

theorem top_C (hc0 : ¬cond0_0 i) (hc1 : cond0_1 i) (xs2 : Vec F S192x128 .f32) (xs3 : Vec F S192x128 .f32) (xs4 : Vec F S192x128 .i32) :
    out0_C_5 c i arg1 harg1 arg2 harg2 arg3 harg3 arg4 harg4 arg5 harg5 arg6 harg6 arg7 harg7 arg8 harg8 arg9 harg9 arg10 harg10 arg11 harg11 hc0 hc1 x0 x1 x2 xs2 xs3 xs4 = k0_pay3 (bests (stepLogits arg2 harg2 arg3 harg3 arg8 x0 x1 x2) xs2) := by
  unfold out0_C_5 kernelRun0_C
  simp (disch := decide) only [View.read_writes_junk_eq_canon, View.canon_cons_unit_lit', View.ld_unit_lit', View.readCov_unit_lit', View.readCov_cons_unit_lit', View.readAt_eq_ld, Memref.IsWhole.read_unread,
    kernelRun0_C.sl.r_279, kernelRun0_C.sl.r_280, kernelRun0_C.sl.r_281, kernelRun0_C.sl.r_282, kernelRun0_C.sl.r_283, kernelRun0_C.sl.v4071, kernelRun0_C.sl.v4072, kernelRun0_C.sl.v4081, kernelRun0_C.sl.v4092, kernelRun0_C.sl.v4093, kernelRun0_C.sl.v4102, kernelRun0_C.sl.v4113, kernelRun0_C.sl.v4114, kernelRun0_C.sl.v4123, kernelRun0_C.sl.v4137, kernelRun0_C.sl.v4148, kernelRun0_C.sl.v4159, kernelRun0_C.sl.HS2_1, kernelRun0_C.sl.HS2_2, kernelRun0_C.sl.HS2_3, kernelRun0_C.sl.HS2_4, kernelRun0_C.sl.HS3_1, kernelRun0_C.sl.HS3_2, kernelRun0_C.sl.HS3_3, kernelRun0_C.sl.HS3_4, kernelRun0_C.sl.HS4_1, kernelRun0_C.sl.HS4_2, kernelRun0_C.sl.HS4_3, kernelRun0_C.sl.HS4_4, weights_C]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

theorem token_C (hc0 : ¬cond0_0 i) (hc1 : cond0_1 i) (xs2 : Vec F S192x128 .f32) (xs3 : Vec F S192x128 .f32) (xs4 : Vec F S192x128 .i32) :
    out0_C_3 c i arg1 harg1 arg2 harg2 arg3 harg3 arg4 harg4 arg5 harg5 arg6 harg6 arg7 harg7 arg8 harg8 arg9 harg9 arg10 harg10 arg11 harg11 hc0 hc1 x0 x1 x2 xs2 xs3 xs4 = k0_pay4 (places (BitVec.ofNat 32 (i 0).val) (stepLogits arg2 harg2 arg3 harg3 arg8 x0 x1 x2) xs2 xs4) (bests (stepLogits arg2 harg2 arg3 harg3 arg8 x0 x1 x2) xs2) := by
  unfold out0_C_3 kernelRun0_C
  simp (disch := decide) only [View.read_writes_junk_eq_canon, View.canon_cons_unit_lit', View.ld_unit_lit', View.readCov_unit_lit', View.readCov_cons_unit_lit', View.readAt_eq_ld, Memref.IsWhole.read_unread,
    kernelRun0_C.sl.r_279, kernelRun0_C.sl.r_280, kernelRun0_C.sl.r_281, kernelRun0_C.sl.r_282, kernelRun0_C.sl.r_283, kernelRun0_C.sl.v4071, kernelRun0_C.sl.v4072, kernelRun0_C.sl.v4081, kernelRun0_C.sl.v4092, kernelRun0_C.sl.v4093, kernelRun0_C.sl.v4102, kernelRun0_C.sl.v4113, kernelRun0_C.sl.v4114, kernelRun0_C.sl.v4123, kernelRun0_C.sl.v4137, kernelRun0_C.sl.v4148, kernelRun0_C.sl.v4159, kernelRun0_C.sl.HS2_1, kernelRun0_C.sl.HS2_2, kernelRun0_C.sl.HS2_3, kernelRun0_C.sl.HS2_4, kernelRun0_C.sl.HS3_1, kernelRun0_C.sl.HS3_2, kernelRun0_C.sl.HS3_3, kernelRun0_C.sl.HS3_4, kernelRun0_C.sl.HS4_1, kernelRun0_C.sl.HS4_2, kernelRun0_C.sl.HS4_3, kernelRun0_C.sl.HS4_4, weights_C]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

theorem margin_C (hc0 : ¬cond0_0 i) (hc1 : cond0_1 i) (xs2 : Vec F S192x128 .f32) (xs3 : Vec F S192x128 .f32) (xs4 : Vec F S192x128 .i32) :
    out0_C_4 c i arg1 harg1 arg2 harg2 arg3 harg3 arg4 harg4 arg5 harg5 arg6 harg6 arg7 harg7 arg8 harg8 arg9 harg9 arg10 harg10 arg11 harg11 hc0 hc1 x0 x1 x2 xs2 xs3 xs4 = k0_pay5 (places (BitVec.ofNat 32 (i 0).val) (stepLogits arg2 harg2 arg3 harg3 arg8 x0 x1 x2) xs2 xs4) (bests (stepLogits arg2 harg2 arg3 harg3 arg8 x0 x1 x2) xs2) (seconds (stepLogits arg2 harg2 arg3 harg3 arg8 x0 x1 x2) xs2 xs3) := by
  unfold out0_C_4 kernelRun0_C
  simp (disch := decide) only [View.read_writes_junk_eq_canon, View.canon_cons_unit_lit', View.ld_unit_lit', View.readCov_unit_lit', View.readCov_cons_unit_lit', View.readAt_eq_ld, Memref.IsWhole.read_unread,
    kernelRun0_C.sl.r_279, kernelRun0_C.sl.r_280, kernelRun0_C.sl.r_281, kernelRun0_C.sl.r_282, kernelRun0_C.sl.r_283, kernelRun0_C.sl.v4071, kernelRun0_C.sl.v4072, kernelRun0_C.sl.v4081, kernelRun0_C.sl.v4092, kernelRun0_C.sl.v4093, kernelRun0_C.sl.v4102, kernelRun0_C.sl.v4113, kernelRun0_C.sl.v4114, kernelRun0_C.sl.v4123, kernelRun0_C.sl.v4137, kernelRun0_C.sl.v4148, kernelRun0_C.sl.v4159, kernelRun0_C.sl.HS2_1, kernelRun0_C.sl.HS2_2, kernelRun0_C.sl.HS2_3, kernelRun0_C.sl.HS2_4, kernelRun0_C.sl.HS3_1, kernelRun0_C.sl.HS3_2, kernelRun0_C.sl.HS3_3, kernelRun0_C.sl.HS3_4, kernelRun0_C.sl.HS4_1, kernelRun0_C.sl.HS4_2, kernelRun0_C.sl.HS4_3, kernelRun0_C.sl.HS4_4, weights_C]
  simp only [k0_pay1, k0_pay549, k0_pay550, k0_pay551, k0_pay552, k0_pay553, k0_pay554, k0_pay555, k0_pay556, k0_pay557, k0_pay558, k0_pay559, k0_pay560, k0_pay561, k0_pay562, k0_pay563, k0_pay564, k0_pay565, shapeCast_id]
  rfl

end Cert.Tile
-- ==== Proof.Chunks.lean ====
/-
  What the three carried arrays hold after some chunks of logits, and what the last step makes of them: the largest logit,
  the first vocabulary row where it stands, and the distance to the largest of the others.
-/
module

public import proofs.«01_k».proof.Proof.Steps
public import proofs.«01_k».proof.Proof.Top2
public import proofs.«01_k».proof.Proof.Folds

@[expose] public section

noncomputable section

namespace Cert.Tile

open Cert.KernelIdeal Cert.KernelIdeal.Gen
open Idealize.ShloMosaic Idealize.ShloMosaic.TcCoe Idealize.ShloMosaic.Tactic
open Cert.Top2 (Lane First vocab)

/-- Each token's lanes hold what they should after `n` chunks of its logits `L`. -/
def Holds (L : Fin 192 → ℕ → EReal) (n : ℕ) (b s : FVec Ideal S192x128 .f32) (w : IVec S192x128 32) : Prop :=
  ∀ (r : Fin 192) (l : Fin 128), ∃ wn : ℕ, w (ix2 r l) = BitVec.ofNat 32 wn ∧ Lane (fun j => L r (vocab j l.val)) n (b (ix2 r l)) (s (ix2 r l)) wn

theorem holds_start (L : Fin 192 → ℕ → EReal) : Holds L 0 k0_pay6 k0_pay7 k0_pay8 := by
  intro r l
  refine ⟨0, ?_, ?_⟩
  · unfold k0_pay8
    pointwise
  · have hb : (k0_pay6 (F := Ideal) : FVec Ideal S192x128 .f32) (ix2 r l) = (⊥ : EReal) := by
      unfold k0_pay6
      pointwise
      exact Folds.start_eq_bot
    have hs : (k0_pay7 (F := Ideal) : FVec Ideal S192x128 .f32) (ix2 r l) = (⊥ : EReal) := by
      unfold k0_pay7
      pointwise
      exact Folds.start_eq_bot
    rw [hb, hs]
    exact Lane.zero _

theorem chunk_apply (k : Fin 4) (lg : FVec Ideal S192x512 .f32) (r : Fin 192) (l : Fin 128) :
    chunk k lg (ix2 r l) = lg (ix2 r ⟨128 * k.val + l.val, by omega⟩) := by
  unfold chunk
  pointwise

/-- One chunk more. -/
theorem holds_chunk (L : Fin 192 → ℕ → EReal) (t : ℕ) (k : Fin 4) (lg : FVec Ideal S192x512 .f32) (b s : FVec Ideal S192x128 .f32) (w : IVec S192x128 32)
    (hlg : ∀ (r : Fin 192) (l : Fin 128), lg (ix2 r ⟨128 * k.val + l.val, by omega⟩) = L r (vocab (4 * t + k.val) l.val))
    (H : Holds L (4 * t + k.val) b s w) :
    Holds L (4 * t + k.val + 1) (best k lg b) (second k lg b s) (place k (BitVec.ofNat 32 t) lg b w) := by
  intro r l
  obtain ⟨wn, hw, hl⟩ := H r l
  have hc : chunk k lg (ix2 r l) = L r (vocab (4 * t + k.val) l.val) := (chunk_apply k lg r l).trans (hlg r l)
  have hb : best k lg b (ix2 r l) = max (b (ix2 r l)) (L r (vocab (4 * t + k.val) l.val)) := by
    unfold best
    pointwise
    rw [hc]
  have hs : second k lg b s (ix2 r l) = max (s (ix2 r l)) (min (b (ix2 r l)) (L r (vocab (4 * t + k.val) l.val))) := by
    unfold second
    pointwise
    rw [hc]
  have hp : place k (BitVec.ofNat 32 t) lg b w (ix2 r l)
      = BitVec.ofNat 32 (if b (ix2 r l) < L r (vocab (4 * t + k.val) l.val) then 4 * t + k.val else wn) := by
    unfold place
    pointwise
    rw [hc]
    have hn : Scalar.addi (Scalar.muli (BitVec.ofNat 32 t) 4#32) (BitVec.ofNat 32 k.val) = BitVec.ofNat 32 (4 * t + k.val) := by
      show BitVec.ofNat 32 t * BitVec.ofNat 32 4 + BitVec.ofNat 32 k.val = _
      rw [← BitVec.ofNat_mul, ← BitVec.ofNat_add, Nat.mul_comm]
    split_ifs
    · exact hn
    · exact hw
  refine ⟨_, hp, ?_⟩
  rw [hb, hs]
  exact hl.succ

/-- One step more: four chunks. -/
theorem holds_step (L : Fin 192 → ℕ → EReal) (t : ℕ) (lg : FVec Ideal S192x512 .f32) (b s : FVec Ideal S192x128 .f32) (w : IVec S192x128 32)
    (hlg : ∀ (k : Fin 4) (r : Fin 192) (l : Fin 128), lg (ix2 r ⟨128 * k.val + l.val, by omega⟩) = L r (vocab (4 * t + k.val) l.val))
    (H : Holds L (4 * t) b s w) :
    Holds L (4 * (t + 1)) (bests lg b) (seconds lg b s) (places (BitVec.ofNat 32 t) lg b w) :=
  holds_chunk L t 3 lg _ _ _ (hlg 3) (holds_chunk L t 2 lg _ _ _ (hlg 2) (holds_chunk L t 1 lg _ _ _ (hlg 1) (holds_chunk L t 0 lg _ _ _ (hlg 0) H)))

/-! ## The last step -/

theorem half_word : ∀ n : Fin 500, IntOp.muli (IntOp.shrsi .vector (BitVec.ofNat 32 n.val) 1#32) 256#32 = BitVec.ofNat 32 (n.val / 2 * 256) := by
  decide +kernel

theorem low_word : ∀ n : Fin 500, IntOp.andi (BitVec.ofNat 32 n.val) 1#32 = BitVec.ofNat 32 (n.val % 2) := by
  decide +kernel

/-- A lane's chunk number as a vocabulary row. -/
theorem row_of_place (w : IVec S192x128 32) (r : Fin 192) (l : Fin 128) (n : ℕ) (hn : n < 500) (hw : w (ix2 r l) = BitVec.ofNat 32 n) :
    k0_pay2 (F := Ideal) w (ix2 r l) = BitVec.ofNat 32 (vocab n l.val) := by
  unfold k0_pay2
  pointwise
  rw [hw, half_word ⟨n, hn⟩, low_word ⟨n, hn⟩]
  show BitVec.ofNat 32 (n / 2 * 256) + BitVec.ofNat 32 2 * BitVec.ofNat 32 l.val + BitVec.ofNat 32 (n % 2) = _
  rw [← BitVec.ofNat_mul, ← BitVec.ofNat_add, ← BitVec.ofNat_add]
  rfl

/-- What the run's outputs are, of a token whose logits are `L`: the largest logit `top`, the first row `tok` where it stands,
    and the distance from `top` to the largest logit elsewhere. -/
structure Answer (L : ℕ → EReal) (tokWord : BitVec 32) (margin top : EReal) : Prop where
  largest : top = (Finset.range 64000).sup L
  rest : ∃ tok, First L 64000 top tok ∧ tokWord = BitVec.ofNat 32 tok ∧ margin = top - ((Finset.range 64000).erase tok).sup L

/-- Two answers to one question are one. -/
theorem Answer.unique {L : ℕ → EReal} {t t' : BitVec 32} {g g' p p' : EReal} (h : Answer L t g p) (h' : Answer L t' g' p') :
    t = t' ∧ g = g' ∧ p = p' := by
  obtain rfl : p = p' := h.largest.trans h'.largest.symm
  obtain ⟨a, ha, rfl, rfl⟩ := h.rest
  obtain ⟨a', ha', rfl, rfl⟩ := h'.rest
  obtain rfl := ha.unique ha'
  exact ⟨rfl, rfl, rfl⟩

theorem answer_of_holds (L : Fin 192 → ℕ → EReal) (b s : FVec Ideal S192x128 .f32) (w : IVec S192x128 32) (H : Holds L 500 b s w) (r : Fin 192) :
    Answer (L r) (k0_pay4 (F := Ideal) w b (ix2 r 0)) ((k0_pay5 (F := Ideal) w b s : FVec Ideal S192x1 .f32) (ix2 r 0)) ((k0_pay3 (F := Ideal) b : FVec Ideal S192x1 .f32) (ix2 r 0)) := by
  choose wn hw hl using H r
  let bb : ℕ → EReal := fun l => if h : l < 128 then b (ix2 r ⟨l, h⟩) else ⊥
  let ss : ℕ → EReal := fun l => if h : l < 128 then s (ix2 r ⟨l, h⟩) else ⊥
  let ww : ℕ → ℕ := fun l => if h : l < 128 then wn ⟨l, h⟩ else 0
  have eb (l : Fin 128) : bb l.val = b (ix2 r l) := dif_pos l.isLt
  have es (l : Fin 128) : ss l.val = s (ix2 r l) := dif_pos l.isLt
  have ew (l : Fin 128) : ww l.val = wn l := dif_pos l.isLt
  have HH : ∀ l < 128, Lane (fun j => L r (vocab j l)) 500 (bb l) (ss l) (ww l) := by
    intro l hlt
    have := hl ⟨l, hlt⟩
    rwa [← eb, ← es, ← ew] at this
  have lt500 (l : Fin 128) : wn l < 500 := ((hl l).first (by norm_num)).1
  have hrow (l : Fin 128) : k0_pay2 (F := Ideal) w (ix2 r l) = BitVec.ofNat 32 (vocab (wn l) l.val) := row_of_place w r l _ (lt500 l) (hw l)
  have lt64 (l : Fin 128) : vocab (wn l) l.val < 64000 := Top2.vocab_lt (lt500 l) l.isLt
  -- the largest
  have htop : (k0_pay3 (F := Ideal) b : FVec Ideal S192x1 .f32) (ix2 r 0) = (Finset.range 64000).sup (L r) := by
    rw [← Top2.top_of_lanes HH]
    unfold k0_pay3
    pointwise
    rw [Folds.start_eq_bot]
    exact Folds.fold_max_eq_sup _ bb fun l => (eb l).symm
  generalize hT : (k0_pay3 (F := Ideal) b : FVec Ideal S192x1 .f32) (ix2 r 0) = top at htop
  -- the token
  have hex : ∃ l : Fin 128, b (ix2 r l) = top := by
    obtain ⟨l, hlm, he⟩ := Finset.exists_mem_eq_sup (Finset.range 128) ⟨0, by simp⟩ bb
    have hlt := Finset.mem_range.1 hlm
    refine ⟨⟨l, hlt⟩, ?_⟩
    rw [htop, ← Top2.top_of_lanes HH, he]
    exact (eb ⟨l, hlt⟩).symm
  obtain ⟨l0, hl0, hmin⟩ := Finset.exists_min_image (Finset.univ.filter fun l : Fin 128 => b (ix2 r l) = top) (fun l => vocab (wn l) l.val)
    (by obtain ⟨l, h⟩ := hex; exact ⟨l, by simp [h]⟩)
  have hl0 : b (ix2 r l0) = top := by simpa using hl0
  have hmin : ∀ l, b (ix2 r l) = top → vocab (wn l0) l0.val ≤ vocab (wn l) l.val := fun l h => hmin l (by simp [h])
  have htok : k0_pay4 (F := Ideal) w b (ix2 r 0) = BitVec.ofNat 32 (vocab (wn l0) l0.val) := by
    unfold k0_pay4
    pointwise
    rw [hT]
    refine Folds.fold_minsi _ (fun l => if b (ix2 r l) = top then vocab (wn l) l.val else 1073741824) (fun l => ?_) (fun l => ?_) _ (fun l => ?_) ⟨l0, if_pos hl0⟩
    · by_cases h : b (ix2 r l) = top
      · rw [if_pos h, if_pos h, hrow]
      · rw [if_neg h, if_neg h]
    · have := lt64 l
      split_ifs <;> omega
    · have := lt64 l0
      split_ifs with h
      · exact hmin l h
      · omega
  refine ⟨htop, vocab (wn l0) l0.val, ?_, htok, ?_⟩
  · refine Top2.first_of_lanes HH htop (fun l hlt hb => ?_) ⟨l0.val, l0.isLt, (eb l0).trans hl0, by rw [ew]⟩
    have := hmin ⟨l, hlt⟩ ((eb ⟨l, hlt⟩).symm.trans hb)
    rwa [← ew ⟨l, hlt⟩] at this
  · rw [← Top2.second_of_lanes HH ⟨l0.val, l0.isLt, by rw [ew]⟩]
    unfold k0_pay5
    pointwise
    rw [hT, htok, Folds.start_eq_bot]
    refine congrArg (top - ·) (Folds.fold_max_eq_sup _ (fun l => if vocab (ww l) l = vocab (wn l0) l0.val then ss l else bb l) fun l => ?_)
    have hlt := lt64 l
    have hlt0 := lt64 l0
    rw [hrow, ew, eb, es, Folds.select_ofNat _ _ (by omega) (by omega)]

end Cert.Tile
-- ==== Proof.Nibble.lean ====
/-
  The arithmetic on words that takes a four-bit code out of its byte: the kernel reads four vocabulary rows as one word, gathers the even (or odd) bytes of
  two such words, flips the top bit of every four-bit field, and reads a field as a signed number — the code less eight.
-/
module

public import Idealize.ShloMosaic.Lib.BitcastFour
public import Idealize.ShloMosaic.Lib.Pointwise

@[expose] public section

namespace Cert.Nibble

open Idealize.ShloMosaic

/-- Nibble `q` of a byte, less eight. -/
def code (b : BitVec 8) (q : Nat) : Int := ((b.extractLsb' (4 * q) 4).toNat : Int) - 8

/-- A halfword whose bytes are `a` (low) and `b` (high), the top bit of each four-bit field flipped. -/
def Flipped (h : BitVec 16) (a b : BitVec 8) : Prop :=
  ∀ q < 16, h.getLsbD q = ((if q < 8 then a.getLsbD q else b.getLsbD (q - 8)) ^^ decide (q % 4 = 3))

theorem signed_field (v : BitVec 4) : ((v ^^^ 8#4).signExtend 32).toInt = (v.toNat : Int) - 8 := by
  revert v; decide

theorem field_of_word (h : BitVec 16) (n : Nat) (hn : n < 4) :
    ((h.signExtend 32) <<< (28 - 4 * n)).sshiftRight 28 = (h.extractLsb' (4 * n) 4).signExtend 32 := by
  apply BitVec.eq_of_getLsbD_eq
  intro i hi
  have : n = 0 ∨ n = 1 ∨ n = 2 ∨ n = 3 := by omega
  rcases this with rfl | rfl | rfl | rfl <;> interval_cases i <;>
    simp [BitVec.getElem_sshiftRight, BitVec.getElem_signExtend, BitVec.msb_eq_getLsbD_last, BitVec.getElem_extractLsb', BitVec.getLsbD_sshiftRight, BitVec.getLsbD_signExtend, BitVec.getLsbD_shiftLeft, BitVec.getLsbD_extractLsb']

theorem field_of_flipped {h : BitVec 16} {a b : BitVec 8} (H : Flipped h a b) (n : Nat) (hn : n < 4) :
    h.extractLsb' (4 * n) 4 = ((if n / 2 = 0 then a else b).extractLsb' (4 * (n % 2)) 4) ^^^ 8#4 := by
  apply BitVec.eq_of_getLsbD_eq
  intro i hi
  have hb := H (4 * n + i) (by omega)
  have : n = 0 ∨ n = 1 ∨ n = 2 ∨ n = 3 := by omega
  rcases this with rfl | rfl | rfl | rfl <;> interval_cases i <;>
    simpa [BitVec.getLsbD_extractLsb', BitVec.getLsbD_xor] using hb

/-- A field read as a signed number is its byte's nibble less eight. -/
theorem code_of_flipped {h : BitVec 16} {a b : BitVec 8} (H : Flipped h a b) (n : Nat) (hn : n < 4) :
    (((h.signExtend 32) <<< (28 - 4 * n)).sshiftRight 28).toInt = code (if n / 2 = 0 then a else b) (n % 2) := by
  rw [field_of_word h n hn, field_of_flipped H n hn, signed_field]
  rfl

/-- The even bytes of two words gathered: bits of half `e`. -/
theorem even_bits (wa wb : BitVec 32) (e q : Nat) (he : e < 2) (hq : q < 16) :
    (((wa &&& 16711935#32) ||| ((wb &&& 16711935#32) <<< 8)) ^^^ 2290649224#32).getLsbD (16 * e + q)
      = ((if q < 8 then wa.getLsbD (16 * e + q) else wb.getLsbD (16 * e + (q - 8))) ^^ decide (q % 4 = 3)) := by
  have : e = 0 ∨ e = 1 := by omega
  rcases this with rfl | rfl <;> interval_cases q <;>
    simp [BitVec.getLsbD_xor, BitVec.getLsbD_or, BitVec.getLsbD_and, BitVec.getLsbD_shiftLeft]

/-- The odd bytes likewise. -/
theorem odd_bits (wa wb : BitVec 32) (e q : Nat) (he : e < 2) (hq : q < 16) :
    ((((wa >>> 8) &&& 16711935#32) ||| (wb &&& 4278255360#32)) ^^^ 2290649224#32).getLsbD (16 * e + q)
      = ((if q < 8 then wa.getLsbD (16 * e + q + 8) else wb.getLsbD (16 * e + (q - 8) + 8)) ^^ decide (q % 4 = 3)) := by
  have : e = 0 ∨ e = 1 := by omega
  rcases this with rfl | rfl <;> interval_cases q <;>
    simp [BitVec.getLsbD_xor, BitVec.getLsbD_or, BitVec.getLsbD_and, BitVec.getLsbD_ushiftRight]

/-- Words read as halfwords, at rank 2: bit `q` of halfword row `R` is bit `16 * (R % 2) + q` of word row `R / 2`. -/
theorem bitcast_32_16_getLsbD_ix2 {R r n : Nat} (x : (⟨2, ![r, n]⟩ : Shape).Idx → BitVec 32)
    (h : (⟨2, ![r, n]⟩ : Shape).Bitcasts 32 ⟨2, ![R, n]⟩ 16) (p : Fin R) (l : Fin n) (q : Nat) (hq : q < 16) (a : Fin r)
    (ha : a.val = p.val / 2) :
    (bitcast ⟨2, ![R, n]⟩ 16 x h (ix2 p l)).getLsbD q = (x (ix2 a l)).getLsbD (16 * (p.val % 2) + q) := by
  rw [bitcast_getLsbD x h _ q hq (by decide)]
  have hrow : Shape.row (⟨2, ![R, n]⟩ : Shape) (ix2 p l) = p.val := rfl
  have e2 : (Shape.row (⟨2, ![R, n]⟩ : Shape) (ix2 p l) * 16 + q) % 32 = 16 * (p.val % 2) + q := by rw [hrow]; omega
  have e1 : (Shape.row (⟨2, ![R, n]⟩ : Shape) (ix2 p l) * 16 + q) / 32 = a.val := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem bitcast_8_32_bits {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 32) (p : Fin R)
    (hp : p.val = 4 * a.val + q / 8) :
    (bitcast ⟨2, ![r, n]⟩ 32 x h (ix2 a l)).getLsbD q = (x (ix2 p l)).getLsbD (q % 8) := by
  rw [bitcast_8_32_getLsbD x h _ q hq]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

end Cert.Nibble
-- ==== Proof.TileValue.lean ====
/-
  The dequantized weights a grid point leaves in its scratch, over the extended reals: at row `k` and column `n`, one four-bit code less eight, times the
  scale of its group.
-/
module

public import proofs.«01_k».proof.Proof.Steps
public import proofs.«01_k».proof.Proof.Nibble
public import Idealize.ShloMosaic.Lib.Pointwise
public import Idealize.ShloMosaic.Lib.Pipeline.ValueKit.Acc
public import Idealize.ShloMosaic.Lib.Pipeline.ValueKit.Tiles

@[expose] public section

noncomputable section

namespace Cert.Tile

open Cert.KernelIdeal Cert.KernelIdeal.Gen
open Idealize.ShloMosaic Idealize.ShloMosaic.TcCoe Idealize.ShloMosaic.Tactic
open Cert.Nibble (code Flipped)

/-- A bit of a word is a bit of one of the four bytes above one another it is made of. -/
theorem word_bits (X : Vec Ideal S256x128 .i8) (a : Fin 64) (l : Fin 128) (q : Nat) (hq : q < 32) (p : Fin 256) (hp : p.val = 4 * a.val + q / 8) :
    (k0_pay11 (F := Ideal) X (ix2 a l)).getLsbD q = BitVec.getLsbD (w := 8) (X (ix2 p l)) (q % 8) := by
  unfold k0_pay11
  exact Nibble.bitcast_8_32_bits X _ a l q hq p hp

/-- A halfword of gathered even bytes: the vocabulary row is even. -/
theorem even_half (Xa Xb : Vec Ideal S256x128 .i8) (l p : Fin 128) :
    Flipped (bitcast S128x128 16
      (xori (ori (andi (k0_pay11 (F := Ideal) Xa) (broadcast S64x128 16711935#32))
          (shli (andi (k0_pay11 (F := Ideal) Xb) (broadcast S64x128 16711935#32)) (broadcast S64x128 8#32)))
        (broadcast S64x128 2290649224#32)) bitcasts_S64x128_w32_S128x128_w16 (ix2 l p))
      (Xa (ix2 ⟨2 * l.val, by omega⟩ p)) (Xb (ix2 ⟨2 * l.val, by omega⟩ p)) := by
  intro q hq
  rw [Nibble.bitcast_32_16_getLsbD_ix2 _ _ l p q hq ⟨l.val / 2, by omega⟩ rfl]
  refine (Nibble.even_bits (k0_pay11 (F := Ideal) Xa (ix2 ⟨l.val / 2, by omega⟩ p)) (k0_pay11 (F := Ideal) Xb (ix2 ⟨l.val / 2, by omega⟩ p))
    (l.val % 2) q (by omega) hq).trans ?_
  by_cases h : q < 8
  · rw [if_pos h, if_pos h, word_bits Xa ⟨l.val / 2, by omega⟩ p _ (by omega) ⟨2 * l.val, by omega⟩ (by simp only []; omega)]
    congr 2; omega
  · rw [if_neg h, if_neg h, word_bits Xb ⟨l.val / 2, by omega⟩ p _ (by omega) ⟨2 * l.val, by omega⟩ (by simp only []; omega)]
    congr 2; omega

/-- A halfword of gathered odd bytes: the vocabulary row is odd. -/
theorem odd_half (Xa Xb : Vec Ideal S256x128 .i8) (l p : Fin 128) :
    Flipped (bitcast S128x128 16
      (xori (ori (andi (shrui (k0_pay11 (F := Ideal) Xa) (broadcast S64x128 8#32)) (broadcast S64x128 16711935#32))
          (andi (k0_pay11 (F := Ideal) Xb) (broadcast S64x128 (Scalar.xori 16711935#32 4294967295#32))))
        (broadcast S64x128 2290649224#32)) bitcasts_S64x128_w32_S128x128_w16 (ix2 l p))
      (Xa (ix2 ⟨2 * l.val + 1, by omega⟩ p)) (Xb (ix2 ⟨2 * l.val + 1, by omega⟩ p)) := by
  intro q hq
  rw [Nibble.bitcast_32_16_getLsbD_ix2 _ _ l p q hq ⟨l.val / 2, by omega⟩ rfl]
  refine (Nibble.odd_bits (k0_pay11 (F := Ideal) Xa (ix2 ⟨l.val / 2, by omega⟩ p)) (k0_pay11 (F := Ideal) Xb (ix2 ⟨l.val / 2, by omega⟩ p))
    (l.val % 2) q (by omega) hq).trans ?_
  by_cases h : q < 8
  · rw [if_pos h, if_pos h, word_bits Xa ⟨l.val / 2, by omega⟩ p _ (by omega) ⟨2 * l.val + 1, by omega⟩ (by simp only []; omega)]
    congr 2; omega
  · rw [if_neg h, if_neg h, word_bits Xb ⟨l.val / 2, by omega⟩ p _ (by omega) ⟨2 * l.val + 1, by omega⟩ (by simp only []; omega)]
    congr 2; omega

/-- The field an arithmetic shift pair takes from a halfword, as the printed operations write it. -/
theorem field_ops (h : BitVec 16) (n : Nat) (hn : n < 4) :
    IntOp.shrsi .vector (IntOp.shli .vector (h.signExtend 32) (IntOp.subi 28#32 (IntOp.muli 4#32 (BitVec.ofNat 32 n)))) 28#32
      = ((h.signExtend 32) <<< (28 - 4 * n)).sshiftRight 28 := by
  have : n = 0 ∨ n = 1 ∨ n = 2 ∨ n = 3 := by omega
  rcases this with rfl | rfl | rfl | rfl <;> rfl

theorem codes_even (Xa Xb : Vec Ideal S256x128 .i8) (k : Fin 512) (l : Fin 128) :
    (k0_pay14 (k0_pay11 (F := Ideal) Xa) (k0_pay11 (F := Ideal) Xb) : FVec Ideal S512x128 .bf16) (ix2 k l)
      = (((code ((if k.val % 4 / 2 = 0 then Xa else Xb) (ix2 ⟨2 * l.val, by omega⟩ ⟨k.val / 4, by omega⟩)) (k.val % 4 % 2) : ℤ) : ℝ) : EReal) := by
  unfold k0_pay14
  pointwise
  rw [field_ops _ _ (by omega)]
  have := Nibble.code_of_flipped (even_half Xa Xb l ⟨k.val / 4, by omega⟩) (k.val % 4) (by omega)
  show (((BitVec.toInt _ : ℤ) : ℝ) : EReal) = _
  rw [this]
  split <;> rfl

theorem codes_odd (Xa Xb : Vec Ideal S256x128 .i8) (k : Fin 512) (l : Fin 128) :
    (k0_pay16 (k0_pay15 (k0_pay11 (F := Ideal) Xa) (k0_pay11 (F := Ideal) Xb)) : FVec Ideal S512x128 .bf16) (ix2 k l)
      = (((code ((if k.val % 4 / 2 = 0 then Xa else Xb) (ix2 ⟨2 * l.val + 1, by omega⟩ ⟨k.val / 4, by omega⟩)) (k.val % 4 % 2) : ℤ) : ℝ) : EReal) := by
  unfold k0_pay16 k0_pay15
  pointwise
  rw [field_ops _ _ (by omega)]
  have := Nibble.code_of_flipped (odd_half Xa Xb l ⟨k.val / 4, by omega⟩) (k.val % 4) (by omega)
  show (((BitVec.toInt _ : ℤ) : ℝ) : EReal) = _
  refine (congrArg (fun z : ℤ => ((z : ℝ) : EReal)) this).trans ?_
  split <;> rfl

/-- The mask of the odd pairs of rows. -/
theorem mask_apply (j : Fin 8) (l : Fin 128) : k0_pay13 (ix2 j l) = if j.val % 2 = 1 then 1#1 else 0#1 := by
  unfold k0_pay13
  pointwise
  fin_cases j <;> rfl

theorem row8_lo (row : Vec Ideal S1x1x2x128 .bf16) (r : Fin 8) (l : Fin 128) : row8 row 0 (ix2 r l) = row (ix4 0 0 0 l) := by
  unfold row8 k0_pay18
  pointwise
  simp only [dite_eq_ite, ite_self]

theorem row8_hi (row : Vec Ideal S1x1x2x128 .bf16) (r : Fin 8) (l : Fin 128) : row8 row 1 (ix2 r l) = row (ix4 0 0 1 l) := by
  unfold row8
  rw [if_neg (by decide)]
  unfold k0_pay19
  pointwise
  simp only [dite_eq_ite, ite_self]

/-- A pair of interleaved rows at an index: which half of the pair, and which of the two groups. -/
theorem pair_apply (rowA rowB : Vec Ideal S1x1x2x128 .bf16) (j : Fin 8) (m : Nat) (r : Fin 64) (l : Fin 128) (hm : m % 2 = r.val % 2) (hj : j.val % 2 = r.val % 4 / 2) :
    (if m % 2 = 0 then Scalar.select (k0_pay13 (ix2 j l)) (row8 rowB 0 (ix2 j l)) (row8 rowA 0 (ix2 j l))
      else Scalar.select (k0_pay13 (ix2 j l)) (row8 rowB 1 (ix2 j l)) (row8 rowA 1 (ix2 j l)))
      = (if r.val % 4 / 2 = 0 then rowA else rowB) (ix4 0 0 ⟨r.val % 2, by omega⟩ l) := by
  rw [row8_lo, row8_lo, row8_hi, row8_hi, mask_apply, hj, hm]
  have h : r.val % 4 / 2 = 0 ∨ r.val % 4 / 2 = 1 := by omega
  have hr : r.val % 2 = 0 ∨ r.val % 2 = 1 := by omega
  rcases hr with hr | hr
  · have e : (⟨r.val % 2, by omega⟩ : Fin 2) = 0 := Fin.ext hr
    rw [e, hr]
    rcases h with h | h <;> rw [h] <;> rfl
  · have e : (⟨r.val % 2, by omega⟩ : Fin 2) = 1 := Fin.ext hr
    rw [e, hr]
    rcases h with h | h <;> rw [h] <;> rfl

/-- A block at an index: the code there times its group's scale. -/
theorem block_apply (i : Fin 8) (cs : FVec Ideal S512x128 .bf16) (rowA rowB : Vec Ideal S1x1x2x128 .bf16) (r : Fin 64) (l : Fin 128) :
    block i cs rowA rowB (ix2 r l)
      = cs (ix2 ⟨64 * i.val + r.val, by omega⟩ l) * (if r.val % 4 / 2 = 0 then rowA else rowB) (ix4 0 0 ⟨r.val % 2, by omega⟩ l) := by
  unfold block
  pointwise
  congr 1
  by_cases h1 : r.val < 16
  · rw [dif_pos h1]
    exact pair_apply rowA rowB ⟨r.val / 2, by omega⟩ _ r l (by omega) (by simp only []; omega)
  rw [dif_neg h1]
  by_cases h2 : r.val - 16 < 16
  · rw [dif_pos h2]
    exact pair_apply rowA rowB ⟨(r.val - 16) / 2, by omega⟩ _ r l (by omega) (by simp only []; omega)
  rw [dif_neg h2]
  by_cases h3 : r.val - 16 - 16 < 16
  · rw [dif_pos h3]
    exact pair_apply rowA rowB ⟨(r.val - 16 - 16) / 2, by omega⟩ _ r l (by omega) (by simp only []; omega)
  rw [dif_neg h3]
  exact pair_apply rowA rowB ⟨(r.val - 16 - 16 - 16) / 2, by omega⟩ _ r l (by omega) (by simp only []; omega)

theorem scale_even (X : Vec Ideal S256x112 .bf16) (g : Fin 112) (q : Fin 2) (l : Fin 128) :
    k0_pay9 X (ix4 0 g q l) = X (ix2 ⟨2 * l.val, by omega⟩ g) := by
  unfold k0_pay9
  pointwise
  simp only [ite_self]

theorem scale_odd (X : Vec Ideal S256x112 .bf16) (g : Fin 112) (q : Fin 2) (l : Fin 128) :
    k0_pay10 X (ix4 0 g q l) = X (ix2 ⟨2 * l.val + 1, by omega⟩ g) := by
  unfold k0_pay10
  pointwise
  simp only [ite_self]

section Stores

variable {Val : EltTy → Type} [∀ e, Nonempty (Val e)] {S : Shape} {e : EltTy}

/-- Where the last store holds an index, the array reads that store. -/
theorem canon_hit (off size : Fin S.rank → Nat) (inb : ∀ a, off a + size a ≤ S.size a) (w : (Rect.unit off size inb).shape.Idx → Val e)
    (L : List (View.Piece Val S e)) (y : S.Idx) (x : (Rect.unit off size inb).shape.Idx) (h : ∀ a, (y a : Nat) = off a + x a) :
    View.canon (⟨Rect.unit off size inb, w⟩ :: L) y = w x := by
  have : y = (Rect.unit off size inb).emb x := funext fun a => Fin.ext ((h a).trans (Rect.idx_unit_val off size inb x a).symm)
  rw [this, View.canon_cons_emb]

/-- Where it does not, the array reads the stores before it. -/
theorem canon_miss (off size : Fin S.rank → Nat) (inb : ∀ a, off a + size a ≤ S.size a) (w : (Rect.unit off size inb).shape.Idx → Val e)
    (L : List (View.Piece Val S e)) (y : S.Idx) (a : Fin S.rank) (h : (y a : Nat) < off a ∨ off a + size a ≤ y a) :
    View.canon (⟨Rect.unit off size inb, w⟩ :: L) y = View.canon L y := by
  refine View.canon_cons_of_not_mem _ _ fun hy => ?_
  have := (Rect.mem_set_unit (inb := inb)).mp hy a
  omega

end Stores

/-- A scale row read back: the scales of one group in the vocabulary rows of one parity, twice. -/
theorem scaleRow_apply {arg3 : Memref sig .tc .vmem S512x112 .bf16} (harg3 : arg3.IsWhole) (arg8 : Memref sig .tc .vmem S2x112x2x128 .bf16) (x2 : Vec Ideal S512x112 .bf16)
    (s par : Fin 2) (g : Fin 112) (q : Fin 2) (l : Fin 128) :
    scaleRow harg3 arg8 x2 s par g (ix4 0 0 q l) = x2 (ix2 ⟨256 * s.val + 2 * l.val + par.val, by omega⟩ g) := by
  have hl : ∃ L, scalesAt harg3 x2 s = scalePieces harg3 x2 s ++ L := by
    obtain rfl | rfl : s = 0 ∨ s = 1 := by omega
    · exact ⟨[], rfl⟩
    · exact ⟨scalePieces harg3 x2 0, rfl⟩
  obtain ⟨L, hl⟩ := hl
  unfold scaleRow
  rw [hl, View.readCov_eq_canon']
  obtain rfl | rfl : par = 0 ∨ par = 1 := by omega
  · refine (canon_miss _ _ _ _ _ _ (0 : Fin 4) (Or.inl ?_)).trans ((canon_hit _ _ _ _ _ _ (ix4 (0 : Fin 1) g q l) ?_).trans ?_)
    · exact Nat.zero_lt_one
    · intro a; fin_cases a
      · rfl
      · show g.val + 1 * 0 = 0 + g.val; omega
      · show 0 + 1 * q.val = 0 + q.val; omega
      · show 0 + 1 * l.val = 0 + l.val; omega
    · rw [scale_even, View.readAt_eq_ld, harg3.read_unread]
      refine View.ld_unit_apply_of _ _ _ _ _ _ fun a => ?_
      fin_cases a
      · show 256 * s.val + 2 * l.val + 0 = 256 * s.val + 2 * l.val; omega
      · show g.val = 0 + g.val; omega
  · refine (canon_hit _ _ _ _ _ _ (ix4 (0 : Fin 1) g q l) ?_).trans ?_
    · intro a; fin_cases a
      · rfl
      · show g.val + 1 * 0 = 0 + g.val; omega
      · show 0 + 1 * q.val = 0 + q.val; omega
      · show 0 + 1 * l.val = 0 + l.val; omega
    · rw [scale_odd, View.readAt_eq_ld, harg3.read_unread]
      refine View.ld_unit_apply_of _ _ _ _ _ _ fun a => ?_
      fin_cases a
      · show 256 * s.val + 2 * l.val + 1 = 256 * s.val + (2 * l.val + 1); omega
      · show g.val = 0 + g.val; omega

/-- The vocabulary row of a column of the scratch, within the step's rows. -/
def rowOf (n : Nat) : Nat := 256 * (n / 256) + 2 * (n % 128) + n % 256 / 128

/-- The byte column of a row of the scratch. -/
def colOf (k : Nat) : Nat := 256 * (k / 512) + 128 * (k % 4 / 2) + k % 512 / 4

theorem rowOf_lt {n : Nat} (h : n < 512) : rowOf n < 512 := by unfold rowOf; omega

theorem colOf_lt {k : Nat} (h : k < 3584) : colOf k < 1792 := by unfold colOf; omega

/-- One dequantized weight. -/
def weightOf (x1 : Vec Ideal S512x1792 .i8) (x2 : Vec Ideal S512x112 .bf16) (k : Fin 3584) (n : Fin 512) : EReal :=
  (((code (x1 (ix2 ⟨rowOf n.val, rowOf_lt n.isLt⟩ ⟨colOf k.val, colOf_lt k.isLt⟩)) (k.val % 2) : ℤ) : ℝ) : EReal)
    * x2 (ix2 ⟨rowOf n.val, rowOf_lt n.isLt⟩ ⟨colOf k.val / 16, by have := colOf_lt k.isLt; omega⟩)

/-- The codes of a group at an index. -/
theorem codes_apply {arg2 : Memref sig .tc .vmem S512x1792 .i8} (harg2 : arg2.IsWhole) (x1 : Vec Ideal S512x1792 .i8) (s : Fin 2) (t : Fin 7) (par : Fin 2)
    (k : Fin 512) (l : Fin 128) :
    (codes (words harg2 x1 s t 0) (words harg2 x1 s t 1) par : FVec Ideal S512x128 .bf16) (ix2 k l)
      = (((code (x1 (ix2 ⟨256 * s.val + 2 * l.val + par.val, by omega⟩ ⟨256 * t.val + 128 * (k.val % 4 / 2) + k.val / 4, by omega⟩)) (k.val % 2) : ℤ) : ℝ) : EReal) := by
  have hk : k.val % 4 % 2 = k.val % 2 := by omega
  have read (h : Fin 2) (r : Fin 256) (p : Fin 128) :
      View.readAt (Elt Ideal) arg2.view (Rect.unit (s := S512x1792) ![256 * s.val, 256 * t.val + 128 * h.val] S256x128.size (inb_bytes s t h)).toLoadRect (harg2.unread x1) (ix2 r p)
        = x1 (ix2 ⟨256 * s.val + r.val, by omega⟩ ⟨256 * t.val + 128 * h.val + p.val, by omega⟩) := by
    rw [View.readAt_eq_ld, harg2.read_unread]
    refine View.ld_unit_apply_of _ _ _ _ _ _ fun a => ?_
    fin_cases a <;> rfl
  obtain rfl | rfl : par = 0 ∨ par = 1 := by omega
  · refine (codes_even _ _ k l).trans ?_
    rw [hk]
    obtain h | h : k.val % 4 / 2 = 0 ∨ k.val % 4 / 2 = 1 := by omega
    · rw [if_pos h, read]; simp only [h]; rfl
    · rw [if_neg (by omega), read]; simp only [h]; rfl
  · refine (codes_odd _ _ k l).trans ?_
    rw [hk]
    obtain h | h : k.val % 4 / 2 = 0 ∨ k.val % 4 / 2 = 1 := by omega
    · rw [if_pos h, read]; simp only [h]; rfl
    · rw [if_neg (by omega), read]; simp only [h]; rfl

/-- A piece at an index is the weight at the index under it. -/
theorem piece_apply {arg2 : Memref sig .tc .vmem S512x1792 .i8} (harg2 : arg2.IsWhole) {arg3 : Memref sig .tc .vmem S512x112 .bf16} (harg3 : arg3.IsWhole)
    (arg8 : Memref sig .tc .vmem S2x112x2x128 .bf16) (x1 : Vec Ideal S512x1792 .i8) (x2 : Vec Ideal S512x112 .bf16)
    (s : Fin 2) (t : Fin 7) (par : Fin 2) (i : Fin 8) (r : Fin 64) (l : Fin 128) :
    (piece harg2 harg3 arg8 x1 x2 s t par i).2 (ix2 r l)
      = weightOf x1 x2 ⟨512 * t.val + 64 * i.val + r.val, by omega⟩ ⟨256 * s.val + 128 * par.val + l.val, by omega⟩ := by
  refine (block_apply i _ _ _ r l).trans ?_
  rw [codes_apply harg2 x1 s t par]
  have hrow : 256 * s.val + 2 * l.val + par.val = rowOf (256 * s.val + 128 * par.val + l.val) := by unfold rowOf; omega
  have hcol : 256 * t.val + 128 * ((64 * i.val + r.val) % 4 / 2) + (64 * i.val + r.val) / 4 = colOf (512 * t.val + 64 * i.val + r.val) := by unfold colOf; omega
  have hq : (64 * i.val + r.val) % 2 = (512 * t.val + 64 * i.val + r.val) % 2 := by omega
  unfold weightOf
  congr 1
  · simp only [hrow, hcol, hq]
  · obtain h | h : r.val % 4 / 2 = 0 ∨ r.val % 4 / 2 = 1 := by omega
    · rw [if_pos h, scaleRow_apply]
      have hg : 16 * t.val + i.val = colOf (512 * t.val + 64 * i.val + r.val) / 16 := by unfold colOf; omega
      simp only [hrow, hg]
    · rw [if_neg (by omega), scaleRow_apply]
      have hg : 16 * t.val + 8 + i.val = colOf (512 * t.val + 64 * i.val + r.val) / 16 := by unfold colOf; omega
      simp only [hrow, hg]

theorem mem_two (s : Fin 2) : s ∈ ([1, 0] : List (Fin 2)) := by fin_cases s <;> decide
theorem mem_seven (t : Fin 7) : t ∈ ([6, 5, 4, 3, 2, 1, 0] : List (Fin 7)) := by fin_cases t <;> decide
theorem mem_eight (i : Fin 8) : i ∈ ([7, 6, 5, 4, 3, 2, 1, 0] : List (Fin 8)) := by fin_cases i <;> decide

/-- What the scratch holds after a step's stores. -/
theorem tile_apply (arg2 : Memref sig .tc .vmem S512x1792 .i8) (harg2 : arg2.IsWhole) (arg3 : Memref sig .tc .vmem S512x112 .bf16) (harg3 : arg3.IsWhole)
    (arg8 : Memref sig .tc .vmem S2x112x2x128 .bf16) (x1 : Vec Ideal S512x1792 .i8) (x2 : Vec Ideal S512x112 .bf16) (k : Fin 3584) (n : Fin 512) :
    tile arg2 harg2 arg3 harg3 arg8 x1 x2 (ix2 k n) = weightOf x1 x2 k n := by
  unfold tile
  refine View.canon_apply_of_pieces (Val := Elt Ideal) (e := .bf16) (fun y : S3584x512.Idx => weightOf x1 x2 (y 0) (y 1)) _ ?_ (ix2 k n) ?_
  · intro p hp x
    obtain ⟨s, _, hp⟩ := List.mem_flatMap.mp hp
    obtain ⟨t, _, hp⟩ := List.mem_flatMap.mp hp
    obtain ⟨par, _, hp⟩ := List.mem_flatMap.mp hp
    obtain ⟨i, _, rfl⟩ := List.mem_map.mp hp
    have hx : x = ix2 (n0 := 64) (n1 := 128) (x 0) (x 1) := by
      funext a; fin_cases a <;> rfl
    rw [hx]
    refine (piece_apply harg2 harg3 arg8 x1 x2 s t par i (x 0) (x 1)).trans ?_
    congr 1
    · refine Fin.ext ?_
      show _ = 512 * t.val + 64 * i.val + 1 * (x 0).val
      show 512 * t.val + 64 * i.val + (x 0).val = _
      omega
    · refine Fin.ext ?_
      show _ = 256 * s.val + 128 * par.val + 1 * (x 1).val
      show 256 * s.val + 128 * par.val + (x 1).val = _
      omega
  · refine ⟨piece harg2 harg3 arg8 x1 x2 ⟨n.val / 256, by omega⟩ ⟨k.val / 512, by omega⟩ ⟨n.val % 256 / 128, by omega⟩ ⟨k.val % 512 / 64, by omega⟩, ?_, ?_⟩
    · exact List.mem_flatMap.mpr ⟨_, mem_two _, List.mem_flatMap.mpr ⟨_, mem_seven _, List.mem_flatMap.mpr ⟨_, mem_two _, List.mem_map.mpr ⟨_, mem_eight _, rfl⟩⟩⟩⟩
    · refine (Rect.mem_set_unit (inb := inb_block ⟨n.val / 256, by omega⟩ ⟨k.val / 512, by omega⟩ ⟨n.val % 256 / 128, by omega⟩ ⟨k.val % 512 / 64, by omega⟩)).mpr fun a => ?_
      fin_cases a
      · show 512 * (k.val / 512) + 64 * (k.val % 512 / 64) ≤ k.val ∧ k.val < 512 * (k.val / 512) + 64 * (k.val % 512 / 64) + 64
        omega
      · show 256 * (n.val / 256) + 128 * (n.val % 256 / 128) ≤ n.val ∧ n.val < 256 * (n.val / 256) + 128 * (n.val % 256 / 128) + 128
        omega

end Cert.Tile
-- ==== Proof.Logits.lean ====
/-
  A step's logits over the extended reals: the sum over the features of one token's feature times one dequantized weight.
-/
module

public import proofs.«01_k».proof.Proof.TileValue
public import proofs.«01_k».proof.Proof.Gen.KernelIdeal.Value

@[expose] public section

noncomputable section

namespace Cert.Tile

open Cert.KernelIdeal Cert.KernelIdeal.Gen
open Idealize.ShloMosaic Idealize.ShloMosaic.TcCoe Idealize.ShloMosaic.Tactic
open Cert.Nibble (code)

/-- The product at an index. -/
theorem pay548_apply (x0 : Vec Ideal S192x3584 .bf16) (w : Vec Ideal S3584x512 .bf16) (r : Fin 192) (n : Fin 512) :
    (k0_pay548 x0 w : FVec Ideal S192x512 .f32) (ix2 r n) = ∑ k : Fin 3584, x0 (ix2 r k) * w (ix2 k n) := by
  unfold k0_pay548
  pointwise

section Blocks

variable {F : FTy → Type} [FloatOps F]

/-- The feature the host moves to column `k`. -/
def featureOf (k : Fin 3584) : Fin 3584 := ⟨2 * colOf k.val + k.val % 2, by have := colOf_lt k.isLt; omega⟩

theorem features_apply (x : (⟨S192x1x3584, .bf16⟩ : BufTy).Contents (Elt F)) (r : Fin 192) (k : Fin 3584) :
    (shapeCast S192x3584 (transpose S192x7x128x2x2 [0, 1, 3, 2, 4] (shapeCast S192x7x2x128x2 x shapeCasts_S192x1x3584_S192x7x2x128x2)
      transposes_S192x7x2x128x2_S192x7x128x2x2_0_1_3_2_4) shapeCasts_S192x7x128x2x2_S192x3584) (ix2 r k)
      = x (ix3 r 0 (featureOf k)) := by
  pointwise
  refine congrArg (fun f => x (ix3 r 0 f)) (Fin.ext ?_)
  show k.val / 512 * 512 + k.val / 2 % 2 * 256 + k.val / 4 % 128 * 2 + k.val % 2 = 2 * colOf k.val + k.val % 2
  unfold colOf
  omega

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem coord_val : ∀ t : Fin cfg0.N, (grid0.coords t 0).val = t.val :=
  (by decide +kernel : ∀ t : Fin grid0.N, _)

theorem lt_vocab (t : Fin cfg0.N) (r : Fin 512) : 512 * t.val + r.val < 64000 := by
  have h : t.val < 125 := lt_of_lt_of_eq t.isLt N_0
  omega

variable (m : (ℓ : Loc nD τ sig) → Buf (Elt F) ℓ)

/-- The step's features: every token's, in the host's order. -/
theorem x_block (c : Dev nD) (t : Fin cfg0.N) (r : Fin 192) (k : Fin 3584) :
    (iblk m c 0 t : Vec F S192x3584 .bf16) (ix2 r k) = m ((c : Thread nD τ).loc main_arg0) (ix3 r 0 (featureOf k)) := by
  refine Eq.trans ?_ (features_apply _ r k)
  show V m c main_v2 (((cfg0.win 0).blk t).view.emb (ix2 r k)) = _
  have h : ((cfg0.win 0).blk t).view.emb (ix2 r k) = ix2 r k := by
    obtain ⟨h0, h1⟩ := index0 t
    funext a
    apply Fin.ext
    fin_cases a
    · show win0_0.index t (0 : Fin 2) * 192 + 1 * r.val = r.val; omega
    · show win0_0.index t (1 : Fin 2) * 3584 + 1 * k.val = k.val; omega
  rw [h]
  rfl

/-- The step's packed codes: 512 vocabulary rows. -/
theorem w_block (c : Dev nD) (t : Fin cfg0.N) (r : Fin 512) (k : Fin 1792) :
    (iblk m c 1 t : Vec F S512x1792 .i8) (ix2 r k) = m ((c : Thread nD τ).loc main_arg1) (ix2 ⟨512 * t.val + r.val, lt_vocab t r⟩ k) := by
  show V m c main_arg1 (((cfg0.win 1).blk t).view.emb (ix2 r k)) = _
  rw [V_main_arg1]
  refine congrArg _ ?_
  obtain ⟨h0, h1⟩ := index1 t
  funext a
  apply Fin.ext
  fin_cases a
  · show win0_1.index t (0 : Fin 2) * 512 + 1 * r.val = 512 * t.val + r.val; omega
  · show win0_1.index t (1 : Fin 2) * 1792 + 1 * k.val = k.val; omega

/-- The step's scales: the same rows. -/
theorem s_block (c : Dev nD) (t : Fin cfg0.N) (r : Fin 512) (k : Fin 112) :
    (iblk m c 2 t : Vec F S512x112 .bf16) (ix2 r k) = m ((c : Thread nD τ).loc main_arg2) (ix2 ⟨512 * t.val + r.val, lt_vocab t r⟩ k) := by
  show V m c main_arg2 (((cfg0.win 2).blk t).view.emb (ix2 r k)) = _
  rw [V_main_arg2]
  refine congrArg _ ?_
  obtain ⟨h0, h1⟩ := index2 t
  funext a
  apply Fin.ext
  fin_cases a
  · show win0_2.index t (0 : Fin 2) * 512 + 1 * r.val = 512 * t.val + r.val; omega
  · show win0_2.index t (1 : Fin 2) * 112 + 1 * k.val = k.val; omega

end Blocks

/-! ## The logit of a token and a vocabulary row -/

/-- One term: feature `2 * col + q` of the token times code `q` of byte `col` of the row, scaled. -/
def termOf (x : S192x1x3584.Idx → EReal) (w : S64000x1792.Idx → BitVec 8) (s : S64000x112.Idx → EReal) (r : Fin 192) (v : Fin 64000) (col : Fin 1792) (q : Fin 2) : EReal :=
  x (ix3 r 0 ⟨2 * col.val + q.val, by omega⟩) * ((((code (w (ix2 v col)) q.val : ℤ) : ℝ) : EReal) * s (ix2 v ⟨col.val / 16, by omega⟩))

/-- The logit: the even features' sum plus the odd features'. -/
def logitOf (x : S192x1x3584.Idx → EReal) (w : S64000x1792.Idx → BitVec 8) (s : S64000x112.Idx → EReal) (r : Fin 192) (v : Fin 64000) : EReal :=
  (∑ col, termOf x w s r v col 0) + ∑ col, termOf x w s r v col 1

/-- The host's order of the features, as byte columns and nibbles. -/
def columns : Fin 3584 ≃ Fin 1792 × Fin 2 where
  toFun k := (⟨colOf k.val, colOf_lt k.isLt⟩, ⟨k.val % 2, by omega⟩)
  invFun p := ⟨512 * (p.1.val / 256) + 4 * (p.1.val % 128) + 2 * (p.1.val % 256 / 128) + p.2.val, by omega⟩
  left_inv k := by
    apply Fin.ext
    show 512 * (colOf k.val / 256) + 4 * (colOf k.val % 128) + 2 * (colOf k.val % 256 / 128) + k.val % 2 = k.val
    have e : k.val = 512 * (k.val / 512) + 4 * (k.val % 512 / 4) + 2 * (k.val % 4 / 2) + k.val % 2 := by omega
    have hp : k.val % 512 / 4 < 128 := by omega
    have hh : k.val % 4 / 2 < 2 := by omega
    unfold colOf
    generalize k.val % 512 / 4 = p at *
    generalize k.val % 4 / 2 = h at *
    generalize k.val / 512 = a at *
    have e1 : (256 * a + 128 * h + p) / 256 = a := by omega
    have e2 : (256 * a + 128 * h + p) % 128 = p := by omega
    have e3 : (256 * a + 128 * h + p) % 256 / 128 = h := by omega
    rw [e1, e2, e3]
    omega
  right_inv p := by
    obtain ⟨a, q⟩ := p
    refine Prod.ext (Fin.ext ?_) (Fin.ext ?_)
    · show colOf (512 * (a.val / 256) + 4 * (a.val % 128) + 2 * (a.val % 256 / 128) + q.val) = a.val
      unfold colOf
      have e1 : (512 * (a.val / 256) + 4 * (a.val % 128) + 2 * (a.val % 256 / 128) + q.val) / 512 = a.val / 256 := by omega
      have e2 : (512 * (a.val / 256) + 4 * (a.val % 128) + 2 * (a.val % 256 / 128) + q.val) % 4 / 2 = a.val % 256 / 128 := by omega
      have e3 : (512 * (a.val / 256) + 4 * (a.val % 128) + 2 * (a.val % 256 / 128) + q.val) % 512 / 4 = a.val % 128 := by omega
      rw [e1, e2, e3]
      omega
    · show (512 * (a.val / 256) + 4 * (a.val % 128) + 2 * (a.val % 256 / 128) + q.val) % 2 = q.val
      omega

/-- A sum of terms in the host's order is the logit. -/
theorem sum_terms (x : S192x1x3584.Idx → EReal) (w : S64000x1792.Idx → BitVec 8) (s : S64000x112.Idx → EReal) (r : Fin 192) (v : Fin 64000) :
    (∑ k, termOf x w s r v (columns k).1 (columns k).2) = logitOf x w s r v := by
  rw [Equiv.sum_comp columns (fun p => termOf x w s r v p.1 p.2), Fintype.sum_prod_type]
  unfold logitOf
  rw [← Finset.sum_add_distrib]
  exact Finset.sum_congr rfl fun a _ => Fin.sum_univ_two _

/-- The logits of a step whose blocks are read off the arrays are the logits of its vocabulary rows. -/
theorem stepLogits_of (x : S192x1x3584.Idx → EReal) (w : S64000x1792.Idx → BitVec 8) (s : S64000x112.Idx → EReal)
    (arg2 : Memref sig .tc .vmem S512x1792 .i8) (harg2 : arg2.IsWhole) (arg3 : Memref sig .tc .vmem S512x112 .bf16) (harg3 : arg3.IsWhole)
    (arg8 : Memref sig .tc .vmem S2x112x2x128 .bf16) (x0 : Vec Ideal S192x3584 .bf16) (x1 : Vec Ideal S512x1792 .i8) (x2 : Vec Ideal S512x112 .bf16)
    (r : Fin 192) (n : Fin 512) (v : Fin 64000)
    (h0 : ∀ k, x0 (ix2 r k) = x (ix3 r 0 (featureOf k)))
    (h1 : ∀ k, x1 (ix2 ⟨rowOf n.val, rowOf_lt n.isLt⟩ k) = w (ix2 v k))
    (h2 : ∀ k, x2 (ix2 ⟨rowOf n.val, rowOf_lt n.isLt⟩ k) = s (ix2 v k)) :
    stepLogits arg2 harg2 arg3 harg3 arg8 x0 x1 x2 (ix2 r n) = logitOf x w s r v := by
  unfold stepLogits
  rw [pay548_apply, ← sum_terms]
  refine Finset.sum_congr rfl fun k _ => ?_
  rw [tile_apply, h0]
  unfold weightOf
  rw [h1, h2]
  rfl

variable (m : (ℓ : Loc nD τ sig) → Buf (Elt Ideal) ℓ)

/-- A step's logits are the logits of its vocabulary rows. -/
theorem stepLogits_apply (c : Dev nD) (t : Fin cfg0.N) (arg2 : Memref sig .tc .vmem S512x1792 .i8) (harg2 : arg2.IsWhole) (arg3 : Memref sig .tc .vmem S512x112 .bf16) (harg3 : arg3.IsWhole)
    (arg8 : Memref sig .tc .vmem S2x112x2x128 .bf16) (r : Fin 192) (n : Fin 512) :
    stepLogits arg2 harg2 arg3 harg3 arg8 (iblk m c 0 t) (iblk m c 1 t) (iblk m c 2 t) (ix2 r n)
      = logitOf (m ((c : Thread nD τ).loc main_arg0)) (m ((c : Thread nD τ).loc main_arg1)) (m ((c : Thread nD τ).loc main_arg2)) r
          ⟨512 * t.val + rowOf n.val, lt_vocab t ⟨rowOf n.val, rowOf_lt n.isLt⟩⟩ :=
  stepLogits_of _ _ _ arg2 harg2 arg3 harg3 arg8 _ _ _ r n _ (x_block m c t r) (w_block m c t _) (s_block m c t _)

end Cert.Tile
-- ==== Proof.Carried.lean ====
/-
  What the run carries from step to step, and what it leaves in its three outputs.
-/
module

public import proofs.«01_k».proof.Proof.Chunks
public import proofs.«01_k».proof.Proof.Logits

@[expose] public section

noncomputable section

namespace Cert.Tile

open Cert.KernelIdeal Cert.KernelIdeal.Gen Cert.KernelIdeal.Value
open Idealize.ShloMosaic Idealize.ShloMosaic.TcCoe Idealize.ShloMosaic.Tactic
open Cert.Top2 (Lane First vocab)

/-- Token `r`'s logits, over every number: nothing stands outside the vocabulary. -/
def logitsOf (x : S192x1x3584.Idx → EReal) (w : S64000x1792.Idx → BitVec 8) (s : S64000x112.Idx → EReal) (r : Fin 192) (v : ℕ) : EReal :=
  if h : v < 64000 then logitOf x w s r ⟨v, h⟩ else ⊥

theorem logitsOf_val (x : S192x1x3584.Idx → EReal) (w : S64000x1792.Idx → BitVec 8) (s : S64000x112.Idx → EReal) (r : Fin 192) (v : Fin 64000) :
    logitsOf x w s r v.val = logitOf x w s r v := dif_pos v.isLt

/-- Lane `l` of chunk `k` of step `t` is that chunk's row. -/
theorem row_eq (t : ℕ) (k : Fin 4) (l : Fin 128) : 512 * t + rowOf (128 * k.val + l.val) = vocab (4 * t + k.val) l.val := by
  unfold rowOf vocab
  have := k.isLt
  have := l.isLt
  have e1 : (128 * k.val + l.val) / 256 = k.val / 2 := by omega
  have e2 : (128 * k.val + l.val) % 128 = l.val := by omega
  have e3 : (128 * k.val + l.val) % 256 / 128 = k.val % 2 := by omega
  rw [e1, e2, e3]
  omega

variable (m : (ℓ : Loc nD τ sig) → Buf (Elt Ideal) ℓ) (c : Dev nD)

/-- The logits of the run's arguments. -/
def runLogits : Fin 192 → ℕ → EReal :=
  logitsOf (m ((c : Thread nD τ).loc main_arg0)) (m ((c : Thread nD τ).loc main_arg1)) (m ((c : Thread nD τ).loc main_arg2))

/-- The three carried arrays hold what they should after `n` chunks. -/
def HoldsAt (n : ℕ) (acc : Vec Ideal S192x1 .i32 × Vec Ideal S192x1 .f32 × Vec Ideal S192x1 .f32 × Vec Ideal S192x128 .f32 × Vec Ideal S192x128 .f32 × Vec Ideal S192x128 .i32) : Prop :=
  Holds (runLogits m c) n acc.2.2.2.1 acc.2.2.2.2.1 acc.2.2.2.2.2

/-- One step of the run, from carried arrays that hold what they should. -/
theorem holds_run (t : Fin cfg0.N) (arg2 : Memref sig .tc .vmem S512x1792 .i8) (harg2 : arg2.IsWhole) (arg3 : Memref sig .tc .vmem S512x112 .bf16) (harg3 : arg3.IsWhole)
    (arg8 : Memref sig .tc .vmem S2x112x2x128 .bf16) (b s : FVec Ideal S192x128 .f32) (w : IVec S192x128 32) (H : Holds (runLogits m c) (4 * t.val) b s w) :
    Holds (runLogits m c) (4 * (t.val + 1)) (bests (stepLogits arg2 harg2 arg3 harg3 arg8 (iblk m c 0 t) (iblk m c 1 t) (iblk m c 2 t)) b)
      (seconds (stepLogits arg2 harg2 arg3 harg3 arg8 (iblk m c 0 t) (iblk m c 1 t) (iblk m c 2 t)) b s)
      (places (BitVec.ofNat 32 (grid0.coords t 0).val) (stepLogits arg2 harg2 arg3 harg3 arg8 (iblk m c 0 t) (iblk m c 1 t) (iblk m c 2 t)) b w) := by
  rw [coord_val]
  refine holds_step _ t.val _ b s w (fun k r l => ?_) H
  rw [stepLogits_apply m c t arg2 harg2 arg3 harg3 arg8 r _, ← row_eq]
  exact (logitsOf_val _ _ _ r ⟨_, _⟩).symm

theorem holds_A (t : Fin cfg0.N) (acc : Vec Ideal S192x1 .i32 × Vec Ideal S192x1 .f32 × Vec Ideal S192x1 .f32 × Vec Ideal S192x128 .f32 × Vec Ideal S192x128 .f32 × Vec Ideal S192x128 .i32)
    (h : t.val = 0) : HoldsAt m c (4 * (t.val + 1)) (stAt0 m c t.val t.isLt acc) := by
  unfold HoldsAt
  rw [stAt0_A m c t acc (by omega) (by omega)]
  dsimp only
  rw [best_A, second_A, place_A]
  refine holds_run m c t _ _ _ _ _ _ _ _ ?_
  rw [h]
  exact holds_start _

theorem holds_B (t : Fin cfg0.N) (acc : Vec Ideal S192x1 .i32 × Vec Ideal S192x1 .f32 × Vec Ideal S192x1 .f32 × Vec Ideal S192x128 .f32 × Vec Ideal S192x128 .f32 × Vec Ideal S192x128 .i32)
    (h : t.val ≠ 0) (hlt : t.val < 124) (H : HoldsAt m c (4 * t.val) acc) : HoldsAt m c (4 * (t.val + 1)) (stAt0 m c t.val t.isLt acc) := by
  unfold HoldsAt
  rw [stAt0_B m c t acc (by omega) (by omega)]
  dsimp only
  rw [best_B, second_B, place_B]
  exact holds_run m c t _ _ _ _ _ _ _ _ H

theorem answer_C (t : Fin cfg0.N) (acc : Vec Ideal S192x1 .i32 × Vec Ideal S192x1 .f32 × Vec Ideal S192x1 .f32 × Vec Ideal S192x128 .f32 × Vec Ideal S192x128 .f32 × Vec Ideal S192x128 .i32)
    (h : t.val = 124) (H : HoldsAt m c (4 * t.val) acc) (r : Fin 192) :
    Answer (runLogits m c r) ((stAt0 m c t.val t.isLt acc).1 (ix2 r 0)) ((stAt0 m c t.val t.isLt acc).2.1 (ix2 r 0)) ((stAt0 m c t.val t.isLt acc).2.2.1 (ix2 r 0)) := by
  rw [stAt0_C m c t acc (by omega) (by omega)]
  dsimp only
  rw [token_C, margin_C, top_C]
  refine answer_of_holds (runLogits m c) _ _ _ ?_ r
  have hh := holds_run m c t (ms0_1 t) (hs0_1 t) (ms0_2 t) (hs0_2 t) scM0_1 _ _ _ H
  rwa [show 4 * (t.val + 1) = 500 by omega] at hh

/-- After step `n`, the carried arrays hold what they should after `4 (n + 1)` chunks. -/
theorem holds_at (n : ℕ) (hn : n < cfg0.N) (hlt : n < 124) : HoldsAt m c (4 * (n + 1)) (outsAt0 m c n hn) := by
  induction n with
  | zero => rw [outsAt0_zero]; exact holds_A m c ⟨0, hn⟩ _ rfl
  | succ n ih =>
    rw [outsAt0_succ]
    exact holds_B m c ⟨n + 1, hn⟩ _ (Nat.succ_ne_zero n) hlt (ih _ (by omega))

/-- What the run leaves in its three outputs. -/
theorem run_answer (r : Fin 192) : Answer (runLogits m c r) (G3 m c (ix2 r 0)) (G4 m c (ix2 r 0)) (G5 m c (ix2 r 0)) := by
  have hN : 124 < cfg0.N := lt_of_lt_of_eq (by decide) N_0.symm
  rw [G3_last, G4_last, G5_last, ← outsAt0_sweep m c 124 hN, outsAt0_succ m c 123 hN]
  exact answer_C m c ⟨124, hN⟩ _ rfl (holds_at m c 123 (Nat.lt_of_succ_lt hN) (by omega)) r

end Cert.Tile
-- ==== Proof.ReferenceValue.lean ====
/-
  What the reference computes, entry by entry: its logits are the kernel's, and its three results are the answer about them.
-/
module

public import proofs.«01_k».proof.Proof.FirstLargest
public import proofs.«01_k».proof.Proof.Carried

@[expose] public section

noncomputable section

namespace Cert.RefRun

open Idealize.ShloMosaic Idealize.ShloMosaic.TcCoe Idealize.ShloMosaic.Tactic Cert.ReferenceIdeal
open Cert.Nibble (code)
open Cert.Tile (logitOf termOf logitsOf Answer logitsOf_val)

theorem eight : Ideal.ofBits .bf16 16640#16 = (8 : EReal) := by
  simp [Ideal.ofBits, Ideal.ieee]
  rw [← EReal.coe_mul]
  norm_num
  rfl

theorem low_code : ∀ b : BitVec 8, (IntOp.andi (BitVec.setWidth 32 b) 15#32).toInt - 8 = code b 0 := by
  decide +kernel

theorem high_code : ∀ b : BitVec 8, (IntOp.shrsi .host (BitVec.setWidth 32 b) 4#32).toInt - 8 = code b 1 := by
  decide +kernel

/-- A field less eight, as an extended real. -/
theorem field_eq (v : BitVec 32) (z : ℤ) (h : v.toInt - 8 = z) :
    (FloatOps.sitofp (F := Ideal) .bf16 v : EReal) - Ideal.ofBits .bf16 16640#16 = ((z : ℝ) : EReal) := by
  rw [eight]
  show ((v.toInt : ℝ) : EReal) - ((8 : ℝ) : EReal) = _
  rw [← EReal.coe_sub, ← h]
  push_cast
  rfl

theorem logits_apply (x : FVec Ideal S192x1x3584 .bf16) (w : IVec S64000x1792 8) (s : FVec Ideal S64000x112 .bf16) (r : Fin 192) (v : Fin 64000) :
    (logits (F := Ideal) x w s : FVec Ideal S192x1x64000 .f32) (ix3 r 0 v) = logitOf x w s r v := by
  unfold logits weights lows highs scales
  pointwise
  simp only [field_eq _ _ (low_code _), field_eq _ _ (high_code _)]
  unfold logitOf termOf
  have h (c : Fin 1792) : (⟨1 + 2 * c.val, by omega⟩ : Fin 3584) = ⟨2 * c.val + (1 : Fin 2).val, by show _ + 1 < _; omega⟩ := Fin.ext (Nat.add_comm _ _)
  simp only [h]
  rfl

theorem topOf_apply (L : FVec Ideal S192x1x64000 .f32) (r : Fin 192) (f : ℕ → EReal) (hf : ∀ v : Fin 64000, L (ix3 r 0 v) = f v.val) :
    (topOf (F := Ideal) L : FVec Ideal S192x1 .f32) (ix2 r 0) = (Finset.range 64000).sup f := by
  unfold topOf
  pointwise
  rw [Folds.start_eq_bot]
  exact Folds.fold_max_eq_sup _ f hf

/-- The logits with each row's own column set to negative infinity. -/
def masked (L : FVec Ideal S192x1x64000 .f32) (t : IVec S192x1 32) : FVec Ideal S192x1x64000 .f32 :=
  select (ownColumn (F := Ideal) t) (broadcastInDim S192x1x64000 ![] Gen.bcast_S_S192x1x64000 (constant S_ .f32 0xFF800000#32)) L

theorem masked_apply (L : FVec Ideal S192x1x64000 .f32) (t : IVec S192x1 32) (r : Fin 192) (tok : ℕ) (htok : tok < 64000) (ht : t (ix2 r 0) = BitVec.ofNat 32 tok) (v : Fin 64000) :
    masked L t (ix3 r 0 v)
      = if v.val = tok then (⊥ : EReal) else L (ix3 r 0 v) := by
  unfold masked ownColumn
  pointwise
  have := v.isLt
  rw [ht, Folds.start_eq_bot, Folds.select_ofNat _ _ (by omega) (by omega)]

/-- Leaving out one place is setting it to negative infinity. -/
theorem sup_erase (f : ℕ → EReal) (n tok : ℕ) : (Finset.range n).sup (fun v => if v = tok then ⊥ else f v) = ((Finset.range n).erase tok).sup f := by
  apply le_antisymm
  · refine Finset.sup_le fun v hv => ?_
    split_ifs with h
    · exact bot_le
    · exact Finset.le_sup (f := f) (Finset.mem_erase.mpr ⟨h, hv⟩)
  · refine Finset.sup_le fun v hv => ?_
    obtain ⟨h, hv⟩ := Finset.mem_erase.mp hv
    refine le_trans (le_of_eq (if_neg h).symm) (Finset.le_sup (f := fun v => if v = tok then ⊥ else f v) hv)

/-- The largest entry of a row with one place left out. -/
theorem rest_apply (L : FVec Ideal S192x1x64000 .f32) (t : IVec S192x1 32) (r : Fin 192) (f : ℕ → EReal) (hf : ∀ v : Fin 64000, L (ix3 r 0 v) = f v.val)
    (tok : ℕ) (htok : tok < 64000) (ht : t (ix2 r 0) = BitVec.ofNat 32 tok) :
    (topOf (F := Ideal) (masked L t) : FVec Ideal S192x1 .f32) (ix2 r 0)
      = ((Finset.range 64000).erase tok).sup f := by
  rw [← sup_erase]
  refine topOf_apply _ r _ fun v => ?_
  rw [masked_apply L t r tok htok ht v, hf]

theorem secondOf_def (L : FVec Ideal S192x1x64000 .f32) :
    secondOf (F := Ideal) L
      = topOf (F := Ideal) (masked L (tokenOf (F := Ideal) L)) := rfl

theorem sub_apply (a b : FVec Ideal S192x1 .f32) (i : S192x1.Idx) : (subf a b : FVec Ideal S192x1 .f32) i = (a i : EReal) - b i := rfl

/-- The reference's results about logits are the answer about them. -/
theorem answer (L : FVec Ideal S192x1x64000 .f32) (r : Fin 192) (f : ℕ → EReal) (hf : ∀ v : Fin 64000, L (ix3 r 0 v) = f v.val) :
    Answer f (tokenOf (F := Ideal) L (ix2 r 0)) ((subf (topOf (F := Ideal) L) (secondOf (F := Ideal) L) : FVec Ideal S192x1 .f32) (ix2 r 0))
      ((topOf (F := Ideal) L : FVec Ideal S192x1 .f32) (ix2 r 0)) := by
  have htop := topOf_apply L r f hf
  obtain ⟨tok, hfirst, htok⟩ := first_of_row L r f hf
  rw [secondOf_def, sub_apply]
  generalize tokenOf (F := Ideal) L = t at htok ⊢
  rw [rest_apply L t r f hf tok hfirst.1 htok, htop]
  exact ⟨rfl, tok, hfirst, htok, rfl⟩

end Cert.RefRun
-- ==== Proof.Equation.lean ====
/-
  The equation: the idealized kernel and the reference, run from the same arguments, leave the same token, margin and top.
-/
module

public import proofs.«01_k».proof.Proof.ReferenceValue

@[expose] public section

noncomputable section

namespace Cert.Equation

open Idealize.ShloMosaic Idealize.ShloMosaic.TcCoe Idealize.ShloMosaic.StableHlo Idealize.SL.Sem
open Cert.Tile (logitsOf Answer logitsOf_val)
open Cert.RefRun (tokenOf topOf secondOf logits)

/-- Arrays that answer every token's logits are the reference's results. -/
theorem results_of_answers (x : FVec Ideal ReferenceIdeal.S192x1x3584 .bf16) (w : IVec ReferenceIdeal.S64000x1792 8) (s : FVec Ideal ReferenceIdeal.S64000x112 .bf16)
    (t : IVec ReferenceIdeal.S192x1 32) (g p : FVec Ideal ReferenceIdeal.S192x1 .f32)
    (h : ∀ r : Fin 192, Answer (logitsOf x w s r) (t (ix2 r 0)) (g (ix2 r 0)) (p (ix2 r 0))) :
    tokenOf (F := Ideal) (logits (F := Ideal) x w s) = t
      ∧ (subf (topOf (F := Ideal) (logits (F := Ideal) x w s)) (secondOf (F := Ideal) (logits (F := Ideal) x w s)) : FVec Ideal ReferenceIdeal.S192x1 .f32) = g
      ∧ topOf (F := Ideal) (logits (F := Ideal) x w s) = p := by
  have hu (r : Fin 192) := (RefRun.answer (logits (F := Ideal) x w s) r (logitsOf x w s r)
    fun v => (RefRun.logits_apply x w s r v).trans (logitsOf_val x w s r v).symm).unique (h r)
  have hi (i : ReferenceIdeal.S192x1.Idx) : i = ix2 (i 0) 0 := by
    funext a
    apply Fin.ext
    fin_cases a
    · rfl
    · have := (i 1).isLt
      show (i 1).val = 0
      change (i 1).val < 1 at this
      omega
  refine ⟨funext fun i => ?_, funext fun i => ?_, funext fun i => ?_⟩
  · rw [hi i]; exact (hu (i 0)).1
  · rw [hi i]; exact (hu (i 0)).2.1
  · rw [hi i]; exact (hu (i 0)).2.2

theorem algebraic : Cert.algebraic_KernelIdeal_ReferenceIdeal (hKernelIdeal := Cert.KernelIdeal.Gen.facts) (hReferenceIdeal := Cert.ReferenceIdeal.Gen.facts) := by
  intro m g m' g' _ hargs
  refine ⟨KernelIdeal.Value.G3 m, KernelIdeal.Value.G4 m, KernelIdeal.Value.G5 m, KernelIdeal.Value.run m g, ?_⟩
  refine (θ_run _ _ _).mono (fun r h c => ?_) (RefRun.run_main (F := Ideal) m' g')
  obtain ⟨h0, h1, h2⟩ := hargs c
  have hr := results_of_answers _ _ _ (KernelIdeal.Value.G3 m c) (KernelIdeal.Value.G4 m c) (KernelIdeal.Value.G5 m c) (Tile.run_answer m c)
  rw [← h0, ← h1, ← h2] at hr
  exact ⟨(h c _).trans ((RefRun.token_eq _).trans hr.1), (h c _).trans ((RefRun.margin_eq _).trans hr.2.1), (h c _).trans ((RefRun.top_eq _).trans hr.2.2),
    (h c _).trans (RefRun.arg0_eq _), (h c _).trans (RefRun.arg1_eq _), (h c _).trans (RefRun.arg2_eq _)⟩

end Cert.Equation
-- ==== Proof.lean ====
/-
  The certificate: the three frames, that the idealized kernel is the kernel's sanctioned idealization, and that it and the
  reference leave the same token, margin and top from the same arguments.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.ReferenceRun
public import proofs.«01_k».proof.Proof.Equation
public import Idealize.ShloMosaic.Lib.Bf16Pair
public import Idealize.ShloMosaic.Lib.Bf16PairInverse

@[expose] public section

noncomputable section

namespace Cert.Proof

open Idealize.ShloMosaic Idealize.SL.Sem

/-- Every rewrite of the idealization is one of its rules at the site. -/
theorem preserves : Cert.preserves_Kernel_KernelIdeal :=
  ⟨IdealRules.bf16_pair.bufferStatement _ _, IdealRules.bf16_pair.statement _ _, IdealRules.bf16_pair.halfStatement _,
    IdealRules.bf16_pair.halfStatement _, IdealRules.bf16_pair.statement _ _, IdealRules.bf16_pair.statement _ _,
    IdealRules.bf16_pair.statement _ _⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.RefRun.frame m ρ, preserves, Cert.Equation.algebraic⟩

end Cert.Proof

end
